-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x480x640 : Shape := ⟨3, ![8, 480, 640]⟩
abbrev S_ : Shape := ⟨0, ![]⟩
abbrev S8x480x128 : Shape := ⟨3, ![8, 480, 128]⟩

class Facts : Prop where
  bcast_S_S8x480x640 : S_.BroadcastsInDim S8x480x640 (![] : Fin 0 → Fin S8x480x640.rank)
  reducesTo_S8x480x640_S_d0_1_2 : S8x480x640.ReducesTo [0, 1, 2] S_
  h_S_ : 0 < S_.numel
  slices_S8x480x640_S8x480x128_0_0_0 : S8x480x640.Slices ![0, 0, 0] S8x480x128
  bcast_S_S8x480x128 : S_.BroadcastsInDim S8x480x128 (![] : Fin 0 → Fin S8x480x128.rank)
  reducesTo_S8x480x128_S_d0_1_2 : S8x480x128.ReducesTo [0, 1, 2] S_

variable [Facts]

def fn {F : FTy → Type} [FloatOps F] (main_arg0 : FVec F S8x480x640 .f32) : IVec S_ 1 :=
  let main_cst : FVec F S_ .f32 := constant S_ .f32 0x00000000#32
  let main_v0 : FVec F S8x480x640 .f32 := broadcastInDim S8x480x640 ![] bcast_S_S8x480x640 main_cst
  let main_v1 : IVec S8x480x640 1 := cmpf .oge main_arg0 main_v0
  let main_cst_0 : FVec F S_ .f32 := constant S_ .f32 0x3F800000#32
  let main_v2 : FVec F S8x480x640 .f32 := broadcastInDim S8x480x640 ![] bcast_S_S8x480x640 main_cst_0
  let main_v3 : IVec S8x480x640 1 := cmpf .ole main_arg0 main_v2
  let main_v4 : IVec S8x480x640 1 := andi main_v1 main_v3
  let main_c : IVec S_ 1 := constantI S_ 1 1#1
  let main_v5 : IVec S_ 1 := (fun x v => Host.reduce IntOp.andi x v reducesTo_S8x480x640_S_d0_1_2 h_S_) main_v4 main_c
  let main_v6 : FVec F S8x480x128 .f32 := (extractStridedSlice S8x480x128 ![0, 0, 0] · slices_S8x480x640_S8x480x128_0_0_0) main_arg0
  let main_cst_1 : FVec F S_ .f32 := constant S_ .f32 0x00000000#32
  let main_v7 : FVec F S8x480x128 .f32 := broadcastInDim S8x480x128 ![] bcast_S_S8x480x128 main_cst_1
  let main_v8 : IVec S8x480x128 1 := cmpf .ogt main_v6 main_v7
  let main_c_2 : IVec S_ 1 := constantI S_ 1 1#1
  let main_v9 : IVec S_ 1 := (fun x v => Host.reduce IntOp.andi x v reducesTo_S8x480x128_S_d0_1_2 h_S_) main_v8 main_c_2
  let main_v10 : IVec S_ 1 := andi main_v5 main_v9
  main_v10
-- ==== Kernel.lean ====
abbrev S8x480x640 : Shape := ⟨3, ![8, 480, 640]⟩
abbrev S1x384 : Shape := ⟨2, ![1, 384]⟩
abbrev S128 : Shape := ⟨1, ![128]⟩
abbrev S1x128 : Shape := ⟨2, ![1, 128]⟩
abbrev S_ : Shape := ⟨0, ![]⟩
abbrev S480 : Shape := ⟨1, ![480]⟩
abbrev S480x1 : Shape := ⟨2, ![480, 1]⟩
abbrev S8x400x400 : Shape := ⟨3, ![8, 400, 400]⟩
abbrev S4x480x640 : Shape := ⟨3, ![4, 480, 640]⟩
abbrev S4x400x400 : Shape := ⟨3, ![4, 400, 400]⟩
abbrev S8x128 : Shape := ⟨2, ![8, 128]⟩
abbrev S8x384 : Shape := ⟨2, ![8, 384]⟩
abbrev S1x8x640 : Shape := ⟨3, ![1, 8, 640]⟩
abbrev S8x640 : Shape := ⟨2, ![8, 640]⟩
abbrev S8x1 : Shape := ⟨2, ![8, 1]⟩
abbrev S1x8x128 : Shape := ⟨3, ![1, 8, 128]⟩
abbrev S1 : Shape := ⟨1, ![1]⟩
abbrev S1x1x1 : Shape := ⟨3, ![1, 1, 1]⟩
abbrev S400x400 : Shape := ⟨2, ![400, 400]⟩
abbrev S1x400x400 : Shape := ⟨3, ![1, 400, 400]⟩
abbrev S16x128 : Shape := ⟨2, ![16, 128]⟩
abbrev S1x16x128 : Shape := ⟨3, ![1, 16, 128]⟩

abbrev nBuf : Space → Nat
  | .hbm => 62
  | .vmem => 8
  | .smem => 0
  | _ => 0

abbrev bufTy : (tb : Table) → Fin (tcTables nBuf tb) → BufTy
  | .hbm, ⟨0, _⟩ => ⟨S8x480x640, .f32⟩
  | .hbm, ⟨1, _⟩ => ⟨S1x384, .i32⟩
  | .hbm, ⟨2, _⟩ => ⟨S128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S480, .f32⟩
  | .hbm, ⟨34, _⟩ => ⟨S480x1, .f32⟩
  | .hbm, ⟨35, _⟩ => ⟨S_, .f32⟩
  | .hbm, ⟨36, _⟩ => ⟨S480x1, .f32⟩
  | .hbm, ⟨37, _⟩ => ⟨S480x1, .f32⟩
  | .hbm, ⟨38, _⟩ => ⟨S_, .f32⟩
  | .hbm, ⟨39, _⟩ => ⟨S480x1, .f32⟩
  | .hbm, ⟨40, _⟩ => ⟨S480x1, .f32⟩
  | .hbm, ⟨41, _⟩ => ⟨S_, .f32⟩
  | .hbm, ⟨42, _⟩ => ⟨S480x1, .f32⟩
  | .hbm, ⟨43, _⟩ => ⟨S480x1, .f32⟩
  | .hbm, ⟨44, _⟩ => ⟨S_, .f32⟩
  | .hbm, ⟨45, _⟩ => ⟨S480x1, .f32⟩
  | .hbm, ⟨46, _⟩ => ⟨S480x1, .i1⟩
  | .hbm, ⟨47, _⟩ => ⟨S_, .f32⟩
  | .hbm, ⟨48, _⟩ => ⟨S480x1, .f32⟩
  | .hbm, ⟨49, _⟩ => ⟨S480x1, .f32⟩
  | .hbm, ⟨50, _⟩ => ⟨S_, .f32⟩
  | .hbm, ⟨51, _⟩ => ⟨S480x1, .f32⟩
  | .hbm, ⟨52, _⟩ => ⟨S480x1, .i1⟩
  | .hbm, ⟨53, _⟩ => ⟨S_, .f32⟩
  | .hbm, ⟨54, _⟩ => ⟨S480x1, .f32⟩
  | .hbm, ⟨55, _⟩ => ⟨S480x1, .f32⟩
  | .hbm, ⟨56, _⟩ => ⟨S_, .f32⟩
  | .hbm, ⟨57, _⟩ => ⟨S_, .f32⟩
  | .hbm, ⟨58, _⟩ => ⟨S480x1, .f32⟩
  | .hbm, ⟨59, _⟩ => ⟨S480x1, .f32⟩
  | .hbm, ⟨60, _⟩ => ⟨S480x1, .f32⟩
  | .hbm, ⟨61, _⟩ => ⟨S8x400x400, .f32⟩
  | .local _ .vmem, ⟨0, _⟩ => ⟨S4x480x640, .f32⟩
  | .local _ .vmem, ⟨1, _⟩ => ⟨S4x480x640, .f32⟩
  | .local _ .vmem, ⟨2, _⟩ => ⟨S1x128, .f32⟩
  | .local _ .vmem, ⟨3, _⟩ => ⟨S1x128, .f32⟩
  | .local _ .vmem, ⟨4, _⟩ => ⟨S1x384, .i32⟩
  | .local _ .vmem, ⟨5, _⟩ => ⟨S480x1, .f32⟩
  | .local _ .vmem, ⟨6, _⟩ => ⟨S4x400x400, .f32⟩
  | .local _ .vmem, ⟨7, _⟩ => ⟨S4x400x400, .f32⟩
  | _, _ => ⟨S8x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_v33 : Ref sig .tc := ⟨.hbm, 49, rfl⟩
abbrev main_cst_13 : Ref sig .tc := ⟨.hbm, 50, rfl⟩
abbrev main_v34 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_v37 : Ref sig .tc := ⟨.hbm, 55, rfl⟩
abbrev main_cst_15 : Ref sig .tc := ⟨.hbm, 56, rfl⟩
abbrev main_call0_v0 : Ref sig .tc := ⟨.hbm, 57, rfl⟩
abbrev main_call0_v1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S480x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x400x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x480x640 : Shape := ⟨3, ![8, 480, 640]⟩
abbrev S640 : Shape := ⟨1, ![640]⟩
abbrev S1x1x640 : Shape := ⟨3, ![1, 1, 640]⟩
abbrev S480 : Shape := ⟨1, ![480]⟩
abbrev S1x480x1 : Shape := ⟨3, ![1, 480, 1]⟩
abbrev S_ : Shape := ⟨0, ![]⟩
abbrev S8x307200 : Shape := ⟨2, ![8, 307200]⟩
abbrev S8 : Shape := ⟨1, ![8]⟩
abbrev S8x1 : Shape := ⟨2, ![8, 1]⟩
abbrev S8x400x400 : Shape := ⟨3, ![8, 400, 400]⟩
abbrev S8x307200x1 : Shape := ⟨3, ![8, 307200, 1]⟩
abbrev S8x307200x3 : Shape := ⟨3, ![8, 307200, 3]⟩
abbrev S8x1x1 : Shape := ⟨3, ![8, 1, 1]⟩

abbrev nBuf : Space → Nat
  | .hbm => 137
  | .vmem => 0
  | .smem => 0
  | _ => 0

abbrev hbmTy0_0 (i : Nat) : BufTy := match i % 128 with
  | 0 => ⟨S8x480x640, .f32⟩
  | 1 => ⟨S640, .f32⟩
  | 2 => ⟨S1x1x640, .f32⟩
  | 3 => ⟨S480, .f32⟩
  | 4 => ⟨S1x480x1, .f32⟩
  | 5 => ⟨S_, .f32⟩
  | 6 => ⟨S1x1x640, .f32⟩
  | 7 => ⟨S1x1x640, .f32⟩
  | 8 => ⟨S8x480x640, .f32⟩
  | 9 => ⟨S8x480x640, .f32⟩
  | 10 => ⟨S_, .f32⟩
  | 11 => ⟨S8x480x640, .f32⟩
  | 12 => ⟨S8x480x640, .f32⟩
  | 13 => ⟨S8x307200, .f32⟩
  | 14 => ⟨S_, .f32⟩
  | 15 => ⟨S1x480x1, .f32⟩
  | 16 => ⟨S1x480x1, .f32⟩
  | 17 => ⟨S8x480x640, .f32⟩
  | 18 => ⟨S8x480x640, .f32⟩
  | 19 => ⟨S_, .f32⟩
  | 20 => ⟨S8x480x640, .f32⟩
  | 21 => ⟨S8x480x640, .f32⟩
  | 22 => ⟨S8x307200, .f32⟩
  | 23 => ⟨S_, .f32⟩
  | 24 => ⟨S8x307200, .f32⟩
  | 25 => ⟨S8x307200, .f32⟩
  | 26 => ⟨S_, .f32⟩
  | 27 => ⟨S8x307200, .f32⟩
  | 28 => ⟨S8x307200, .f32⟩
  | 29 => ⟨S8x307200, .f32⟩
  | 30 => ⟨S8x307200, .i32⟩
  | 31 => ⟨S_, .f32⟩
  | 32 => ⟨S8x307200, .f32⟩
  | 33 => ⟨S8x307200, .f32⟩
  | 34 => ⟨S_, .f32⟩
  | 35 => ⟨S8x307200, .f32⟩
  | 36 => ⟨S8x307200, .f32⟩
  | 37 => ⟨S8x307200, .f32⟩
  | 38 => ⟨S8x307200, .i32⟩
  | 39 => ⟨S_, .f32⟩
  | 40 => ⟨S8x307200, .f32⟩
  | 41 => ⟨S8x307200, .i1⟩
  | 42 => ⟨S_, .f32⟩
  | 43 => ⟨S8x307200, .f32⟩
  | 44 => ⟨S8x307200, .i1⟩
  | 45 => ⟨S8x307200, .i1⟩
  | 46 => ⟨S_, .f32⟩
  | 47 => ⟨S8x307200, .f32⟩
  | 48 => ⟨S8x307200, .i1⟩
  | 49 => ⟨S8x307200, .i1⟩
  | 50 => ⟨S_, .f32⟩
  | 51 => ⟨S8x307200, .f32⟩
  | 52 => ⟨S8x307200, .i1⟩
  | 53 => ⟨S8x307200, .i1⟩
  | 54 => ⟨S_, .i32⟩
  | 55 => ⟨S_, .i32⟩
  | 56 => ⟨S_, .i32⟩
  | 57 => ⟨S8x307200, .i32⟩
  | 58 => ⟨S8x307200, .i32⟩
  | 59 => ⟨S_, .i32⟩
  | 60 => ⟨S8x307200, .i32⟩
  | 61 => ⟨S8x307200, .i32⟩
  | 62 => ⟨S_, .i32⟩
  | 63 => ⟨S_, .i32⟩
  | 64 => ⟨S_, .i32⟩
  | 65 => ⟨S8x307200, .i32⟩
  | 66 => ⟨S8x307200, .i32⟩
  | 67 => ⟨S_, .i32⟩
  | 68 => ⟨S8x307200, .i32⟩
  | 69 => ⟨S8x307200, .i32⟩
  | 70 => ⟨S8, .i32⟩
  | 71 => ⟨S8x1, .i32⟩
  | 72 => ⟨S_, .f32⟩
  | 73 => ⟨S8x400x400, .f32⟩
  | 74 => ⟨S8x307200, .f32⟩
  | 75 => ⟨S_, .i32⟩
  | 76 => ⟨S8x1, .i32⟩
  | 77 => ⟨S8x1, .i1⟩
  | 78 => ⟨S_, .i32⟩
  | 79 => ⟨S8x1, .i32⟩
  | 80 => ⟨S8x1, .i32⟩
  | 81 => ⟨S8x1, .i32⟩
  | 82 => ⟨S_, .i32⟩
  | 83 => ⟨S8x307200, .i32⟩
  | 84 => ⟨S8x307200, .i1⟩
  | 85 => ⟨S_, .i32⟩
  | 86 => ⟨S8x307200, .i32⟩
  | 87 => ⟨S8x307200, .i32⟩
  | 88 => ⟨S8x307200, .i32⟩
  | 89 => ⟨S_, .i32⟩
  | 90 => ⟨S8x307200, .i32⟩
  | 91 => ⟨S8x307200, .i1⟩
  | 92 => ⟨S_, .i32⟩
  | 93 => ⟨S8x307200, .i32⟩
  | 94 => ⟨S8x307200, .i32⟩
  | 95 => ⟨S8x307200, .i32⟩
  | 96 => ⟨S8x307200, .i32⟩
  | 97 => ⟨S8x307200x1, .i32⟩
  | 98 => ⟨S8x307200x1, .i32⟩
  | 99 => ⟨S8x307200x1, .i32⟩
  | 100 => ⟨S8x307200x3, .i32⟩
  | 101 => ⟨S8x400x400, .f32⟩
  | 102 => ⟨S_, .f32⟩
  | 103 => ⟨S8, .f32⟩
  | 104 => ⟨S8x1x1, .f32⟩
  | 105 => ⟨S_, .f32⟩
  | 106 => ⟨S8x1x1, .f32⟩
  | 107 => ⟨S8x1x1, .f32⟩
  | 108 => ⟨S_, .i32⟩
  | 109 => ⟨S_, .f32⟩
  | 110 => ⟨S8, .f32⟩
  | 111 => ⟨S8x1x1, .f32⟩
  | 112 => ⟨S_, .f32⟩
  | 113 => ⟨S8x1x1, .f32⟩
  | 114 => ⟨S8x1x1, .f32⟩
  | 115 => ⟨S8x400x400, .f32⟩
  | 116 => ⟨S8x400x400, .f32⟩
  | 117 => ⟨S8x400x400, .f32⟩
  | 118 => ⟨S_, .f32⟩
  | 119 => ⟨S_, .f32⟩
  | 120 => ⟨S_, .f32⟩
  | 121 => ⟨S_, .f32⟩
  | 122 => ⟨S8, .f32⟩
  | 123 => ⟨S8x1x1, .f32⟩
  | 124 => ⟨S8x1x1, .f32⟩
  | 125 => ⟨S8x1x1, .f32⟩
  | 126 => ⟨S_, .f32⟩
  | 127 => ⟨S_, .i1⟩
  | _ => ⟨S8x480x640, .f32⟩

abbrev hbmTy0_1 (i : Nat) : BufTy := match i % 128 with
  | 0 => ⟨S_, .f32⟩
  | 1 => ⟨S_, .f32⟩
  | 2 => ⟨S8x1x1, .f32⟩
  | 3 => ⟨S8x1x1, .f32⟩
  | 4 => ⟨S8x1x1, .f32⟩
  | 5 => ⟨S8x400x400, .f32⟩
  | 6 => ⟨S8x400x400, .f32⟩
  | 7 => ⟨S8x400x400, .f32⟩
  | 8 => ⟨S8x400x400, .f32⟩
  | _ => ⟨S8x480x640, .f32⟩

abbrev hbmTy (i : Nat) : BufTy := match i / 128 with
  | 0 => hbmTy0_0 i
  | 1 => hbmTy0_1 i
  | _ => ⟨S8x480x640, .f32⟩

abbrev bufTy : (tb : Table) → Fin (tcTables nBuf tb) → BufTy
  | .hbm, ⟨i, _⟩ => hbmTy i
  | _, _ => ⟨S8x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_10 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_c_11 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v41 : Ref sig .tc := ⟨.hbm, 61, rfl⟩
abbrev main_c_12 : Ref sig .tc := ⟨.hbm, 62, rfl⟩
abbrev main_c_13 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_v46 : Ref sig .tc := ⟨.hbm, 74, rfl⟩
abbrev main_c_15 : Ref sig .tc := ⟨.hbm, 75, rfl⟩
abbrev main_v47 : Ref sig .tc := ⟨.hbm, 76, rfl⟩
abbrev main_v48 : Ref sig .tc := ⟨.hbm, 77, rfl⟩
abbrev main_c_16 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_17 : Ref sig .tc := ⟨.hbm, 82, rfl⟩
abbrev main_v52 : Ref sig .tc := ⟨.hbm, 83, rfl⟩
abbrev main_v53 : Ref sig .tc := ⟨.hbm, 84, rfl⟩
abbrev main_c_18 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_19 : Ref sig .tc := ⟨.hbm, 89, rfl⟩
abbrev main_v57 : Ref sig .tc := ⟨.hbm, 90, rfl⟩
abbrev main_v58 : Ref sig .tc := ⟨.hbm, 91, rfl⟩
abbrev main_c_20 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_21 : Ref sig .tc := ⟨.hbm, 102, rfl⟩
abbrev main_v68 : Ref sig .tc := ⟨.hbm, 103, rfl⟩
abbrev main_v69 : Ref sig .tc := ⟨.hbm, 104, rfl⟩
abbrev main_cst_22 : Ref sig .tc := ⟨.hbm, 105, rfl⟩
abbrev main_v70 : Ref sig .tc := ⟨.hbm, 106, rfl⟩
abbrev main_v71 : Ref sig .tc := ⟨.hbm, 107, rfl⟩
abbrev main_c_23 : Ref sig .tc := ⟨.hbm, 108, rfl⟩
abbrev main_call2_call0_cst : Ref sig .tc := ⟨.hbm, 109, rfl⟩
abbrev main_call2_call0_v0 : Ref sig .tc := ⟨.hbm, 110, rfl⟩
abbrev main_call2_call0_v1 : Ref sig .tc := ⟨.hbm, 111, rfl⟩
abbrev main_call2_call0_cst_0 : Ref sig .tc := ⟨.hbm, 112, rfl⟩
abbrev main_call2_call0_v2 : Ref sig .tc := ⟨.hbm, 113, rfl⟩
abbrev main_call2_call0_v3 : Ref sig .tc := ⟨.hbm, 114, rfl⟩
abbrev main_call2_call0_v4 : Ref sig .tc := ⟨.hbm, 115, rfl⟩
abbrev main_call2_call0_v5 : Ref sig .tc := ⟨.hbm, 116, rfl⟩
abbrev main_call2_call0_v6 : Ref sig .tc := ⟨.hbm, 117, rfl⟩
abbrev main_call2_call0_v7 : Ref sig .tc := ⟨.hbm, 118, rfl⟩
abbrev main_call2_call0_cst_1 : Ref sig .tc := ⟨.hbm, 119, rfl⟩
abbrev main_call2_call0_v8 : Ref sig .tc := ⟨.hbm, 120, rfl⟩
abbrev main_call2_call0_cst_2 : Ref sig .tc := ⟨.hbm, 121, rfl⟩
abbrev main_call2_call0_v9 : Ref sig .tc := ⟨.hbm, 122, rfl⟩
abbrev main_call2_call0_v10 : Ref sig .tc := ⟨.hbm, 123, rfl⟩
abbrev main_call2_call0_v11 : Ref sig .tc := ⟨.hbm, 124, rfl⟩
abbrev main_call2_call0_v12 : Ref sig .tc := ⟨.hbm, 125, rfl⟩
abbrev main_call2_call0_cst_3 : Ref sig .tc := ⟨.hbm, 126, rfl⟩
abbrev main_call2_call0_v13 : Ref sig .tc := ⟨.hbm, 127, rfl⟩
abbrev main_call2_call0_cst_4 : Ref sig .tc := ⟨.hbm, 128, rfl⟩
abbrev main_call2_call0_call0_v0 : Ref sig .tc := ⟨.hbm, 129, rfl⟩
abbrev main_call2_call0_call0_v1 : Ref sig .tc := ⟨.hbm, 130, rfl⟩
abbrev main_call2_v0 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩

abbrev nD : Nat := 1
abbrev τ : Topo := Topo.v7x

variable {F : FTy → Type} [FloatOps F]
-- ==== Proof.Sample.lean ====
/-
  What one sample of the kernel computes, as functions of the blocks it reads: the words of a group of eight rows, the
  packed sums of the sixty groups, the sixteen counts, and the two blocks stored. The blocks are variables here, so that
  every sample of every grid point is one instance.
-/
module

public import proofs.«01_k».proof.Proof.Gen.KernelIdeal

@[expose] public section

noncomputable section

namespace Bev

open Idealize.ShloMosaic Idealize.SL.Sem Cert.KernelIdeal Cert.KernelIdeal.Facts₀ Cert.KernelIdeal.Facts

variable {F : FTy → Type} [FloatOps F]

/-- The running sum of a sequence of word vectors from `z` on. -/
def acc {s : Shape} (z : IVec s 32) (w : Nat → IVec s 32) (n : Nat) : IVec s 32 :=
  Nat.rec z (fun k a => addi a (w k)) n

/-- Round `r`: the even groups of the fifteen, the odd ones, and their sum. -/
def round {s : Shape} (z : IVec s 32) (w : Nat → IVec s 32) (r : Nat) : IVec s 32 :=
  addi (acc z (fun j => w (15 * r + 2 * j)) 8) (acc z (fun j => w (15 * r + (2 * j + 1))) 7)

/-- The four rounds' even fields, widened and added. -/
def evens {s : Shape} (z : IVec s 32) (w : Nat → IVec s 32) : IVec s 32 :=
  acc z (fun r => andi (round z w r) (broadcast s 252645135#32)) 4

/-- The four rounds' odd fields, widened and added. -/
def odds {s : Shape} (z : IVec s 32) (w : Nat → IVec s 32) : IVec s 32 :=
  acc z (fun r => andi (shrsi (round z w r) (broadcast s 4#32)) (broadcast s 252645135#32)) 4

/-- The eight rows of a group as a matrix. -/
def rows (x : Vec F S1x8x640 .f32) : FVec F S8x640 .f32 := shapeCast S8x640 x shapeCasts_S1x8x640_S8x640

/-- Zero. -/
def zeroF : F .f32 := Scalar.ofBits .f32 0x00000000#32

/-- Its columns 0 to 127. -/
def colsL (x : Vec F S1x8x640 .f32) : FVec F S8x128 .f32 := extractStridedSlice S8x128 ![0, 0] (rows x) slices_S8x640_o0_0_S8x128
/-- Its columns 128 to 511. -/
def colsC (x : Vec F S1x8x640 .f32) : FVec F S8x384 .f32 := extractStridedSlice S8x384 ![0, 128] (rows x) slices_S8x640_o0_128_S8x384
/-- Its columns 512 to 639. -/
def colsR (x : Vec F S1x8x640 .f32) : FVec F S8x128 .f32 := extractStridedSlice S8x128 ![0, 512] (rows x) slices_S8x640_o0_512_S8x128

/-- Four times the vertical part of a pixel's field, in the groups where the row's threshold decides it: above the
    middle of the image for `up`, else below. -/
def vert (up : Bool) (x : Vec F S1x8x640 .f32) (tr : Vec F S8x1 .f32) : IVec S8x640 32 :=
  let t := broadcastTo S8x640 (shapeCast S8x1 tr shapeCasts_S8x1_S8x1) broadcasts_S8x1_S8x640
  if up then
    select (cmpf .ogt (rows x) t) (broadcast S8x640 0#32)
      (select (cmpf .ogt (rows x) (broadcast S8x640 zeroF)) (broadcast S8x640 4#32) (broadcast S8x640 8#32))
  else select (cmpf .oge (rows x) t) (broadcast S8x640 12#32) (broadcast S8x640 8#32)

/-- Whether a left pixel is beyond its column's threshold, and a right one. -/
def thrL (t : Vec F S1x128 .f32) : FVec F S8x128 .f32 :=
  broadcastTo S8x128 (shapeCast S1x128 t shapeCasts_S1x128_S1x128) broadcasts_S1x128_S8x128

/-- A left word from the vertical part. -/
def shiftL (ta : Vec F S1x128 .f32) (x : Vec F S1x8x640 .f32) (v : IVec S8x640 32) : IVec S8x128 32 :=
  shli (broadcast S8x128 1#32) (addi (select (cmpf .ole (colsL x) (thrL ta)) (broadcast S8x128 16#32) (broadcast S8x128 0#32))
    (extractStridedSlice S8x128 ![0, 0] v slices_S8x640_o0_0_S8x128))
/-- A centre word from the vertical part. -/
def shiftC (li : Vec F S1x384 .i32) (x : Vec F S1x8x640 .f32) (v : IVec S8x640 32) : IVec S8x384 32 :=
  shli (broadcast S8x384 1#32) (addi (select (cmpf .ogt (colsC x) (broadcast S8x384 zeroF))
      (broadcastTo S8x384 (shapeCast S1x384 li shapeCasts_S1x384_S1x384) broadcasts_S1x384_S8x384) (broadcast S8x384 0#32))
    (extractStridedSlice S8x384 ![0, 128] v slices_S8x640_o0_128_S8x384))
/-- A right word from the vertical part. -/
def shiftR (tc : Vec F S1x128 .f32) (x : Vec F S1x8x640 .f32) (v : IVec S8x640 32) : IVec S8x128 32 :=
  shli (broadcast S8x128 1#32) (addi (select (cmpf .oge (colsR x) (thrL tc)) (broadcast S8x128 16#32) (broadcast S8x128 0#32))
    (extractStridedSlice S8x128 ![0, 512] v slices_S8x640_o0_512_S8x128))

/-- The row of centre words `1 <<< (lib + k)`. -/
def libW (li : Vec F S1x384 .i32) (k : BitVec 32) : IVec S8x384 32 :=
  broadcastTo S8x384 (shapeCast S1x384 (shli (broadcast S1x384 1#32) (addi li (broadcast S1x384 k))) shapeCasts_S1x384_S1x384)
    broadcasts_S1x384_S8x384

/-- The left words of group `g`. -/
def wordL (ta : Vec F S1x128 .f32) (X : Nat → Vec F S1x8x640 .f32) (T : Nat → Vec F S8x1 .f32) (g : Nat) : IVec S8x128 32 :=
  if g < 4 then shiftL ta (X g) (vert true (X g) (T g))
  else if g < 30 then
    select (cmpf .ogt (colsL (X g)) (thrL ta)) (broadcast S8x128 16#32)
      (select (cmpf .ogt (colsL (X g)) (broadcast S8x128 zeroF)) (broadcast S8x128 1048576#32) (broadcast S8x128 16777216#32))
  else if g < 56 then select (cmpf .ole (colsL (X g)) (thrL ta)) (broadcast S8x128 16777216#32) (broadcast S8x128 256#32)
  else shiftL ta (X g) (vert false (X g) (T g))

/-- The centre words of group `g`. -/
def wordC (li : Vec F S1x384 .i32) (X : Nat → Vec F S1x8x640 .f32) (T : Nat → Vec F S8x1 .f32) (g : Nat) : IVec S8x384 32 :=
  if g < 4 then shiftC li (X g) (vert true (X g) (T g))
  else if g < 30 then select (cmpf .ogt (colsC (X g)) (broadcast S8x384 zeroF)) (libW (F := F) li 4#32) (broadcast S8x384 256#32)
  else if g < 56 then select (cmpf .ogt (colsC (X g)) (broadcast S8x384 zeroF)) (libW (F := F) li 8#32) (broadcast S8x384 256#32)
  else shiftC li (X g) (vert false (X g) (T g))

/-- The right words of group `g`. -/
def wordR (tc : Vec F S1x128 .f32) (X : Nat → Vec F S1x8x640 .f32) (T : Nat → Vec F S8x1 .f32) (g : Nat) : IVec S8x128 32 :=
  if g < 4 then shiftR tc (X g) (vert true (X g) (T g))
  else if g < 30 then
    select (cmpf .oge (colsR (X g)) (thrL tc)) (broadcast S8x128 1048576#32)
      (select (cmpf .ogt (colsR (X g)) (broadcast S8x128 zeroF)) (broadcast S8x128 16#32) (broadcast S8x128 256#32))
  else if g < 56 then select (cmpf .oge (colsR (X g)) (thrL tc)) (broadcast S8x128 16777216#32) (broadcast S8x128 256#32)
  else shiftR tc (X g) (vert false (X g) (T g))

/-- The sum of all lanes of a word vector. -/
def total (a : IVec S8x128 32) : BitVec 32 :=
  extractAt ![0, 0, 0] (shapeCast S1x1x1 (multiReductionI .add [1, 2] S1 (shapeCast S1x8x128 a shapeCasts_S8x128_S1x8x128) 0#32
    reduces_S1x8x128_S1 rfl) shapeCasts_S1_S1x1x1) inpos_S1x1x1_p0_0_0

/-- Field `k` of a side's sums, read out of packed halves. -/
def side (ev od : IVec S8x128 32) (k : Nat) : BitVec 32 :=
  let a := if k % 2 = 0 then ev else od
  let s := if k / 2 % 2 = 0 then total (andi a (broadcast S8x128 16711935#32))
    else total (andi (shrsi a (broadcast S8x128 8#32)) (broadcast S8x128 16711935#32))
  if k / 4 = 0 then Scalar.andi s 65535#32 else Scalar.andi (Scalar.shrsi s 16#32) 65535#32

/-- Field `k` of the centre's sums, read out of the bytes of the three column blocks' sum. -/
def centre (ev od : IVec S8x384 32) (k : Nat) : BitVec 32 :=
  let a := if k % 2 = 0 then ev else od
  let c := addi (addi (extractStridedSlice S8x128 ![0, 0] a slices_S8x384_o0_0_S8x128)
    (extractStridedSlice S8x128 ![0, 128] a slices_S8x384_o0_128_S8x128)) (extractStridedSlice S8x128 ![0, 256] a slices_S8x384_o0_256_S8x128)
  total (andi (shrsi c (broadcast S8x128 (BitVec.ofNat 32 (8 * (k / 2))))) (broadcast S8x128 255#32))

section Counts
variable (ta tc : Vec F S1x128 .f32) (li : Vec F S1x384 .i32) (X : Nat → Vec F S1x8x640 .f32) (T : Nat → Vec F S8x1 .f32)

/-- Zero words. -/
def z128 : IVec S8x128 32 := broadcast S8x128 0#32
/-- Zero words. -/
def z384 : IVec S8x384 32 := broadcast S8x384 0#32

/-- Field `k` of the left pixels. -/
def cntL (k : Nat) : BitVec 32 := side (evens z128 (wordL ta X T)) (odds z128 (wordL ta X T)) k
/-- Field `k` of the centre pixels. -/
def cntC (k : Nat) : BitVec 32 := centre (evens z384 (wordC li X T)) (odds z384 (wordC li X T)) k
/-- Field `k` of the right pixels. -/
def cntR (k : Nat) : BitVec 32 := side (evens z128 (wordR tc X T)) (odds z128 (wordR tc X T)) k

/-- The count of cell `m`, as a word. -/
def cnt (m : Nat) : BitVec 32 :=
  if m / 4 = 0 then cntL ta X T (m % 4)
  else if m / 4 = 1 then Scalar.addi (cntL ta X T (4 + m % 4)) (cntC li X T (4 + m % 4))
  else if m / 4 = 2 then Scalar.addi (cntC li X T (m % 4)) (cntR tc X T (m % 4))
  else cntR tc X T (4 + m % 4)

/-- The count of cell `m`. -/
def cntF (m : Nat) : F .f32 := Scalar.sitofp .f32 (cnt ta tc li X T m)

end Counts

/-- The sum of `f 0` up to `f n`. -/
def sumTo (f : Nat → F .f32) (n : Nat) : F .f32 := Nat.rec (f 0) (fun k a => Scalar.addf a (f (k + 1))) n

/-- The mean of the grid with the sixteen counts `c`. -/
def mean (c : Nat → F .f32) : F .f32 := Scalar.divf (sumTo c 15) (Scalar.ofBits .f32 0x481C4000#32)

/-- One over the deviation of that grid. -/
def invStd (c : Nat → F .f32) : F .f32 :=
  Scalar.divf (Scalar.ofBits .f32 0x3F800000#32) (Scalar.sqrt (Scalar.divf
    (Scalar.addf (sumTo (fun k => Scalar.mulf (Scalar.subf (c k) (mean c)) (Scalar.subf (c k) (mean c))) 15)
      (Scalar.mulf (Scalar.mulf (Scalar.ofBits .f32 0x481C3C00#32) (mean c)) (mean c)))
    (Scalar.ofBits .f32 0x481C3FC0#32)))

/-- The value of an empty cell. -/
def bg (c : Nat → F .f32) : F .f32 := Scalar.mulf (Scalar.subf zeroF (mean c)) (invStd c)

/-- The block stored over the whole sample: the empty cell's value. -/
def full (c : Nat → F .f32) : Vec F S1x400x400 .f32 :=
  shapeCast S1x400x400 (broadcast S400x400 (bg c)) shapeCasts_S400x400_S1x400x400

/-- The sixteen cells written one after the other into a block of empty cells. -/
def cells (c : Nat → F .f32) (n : Nat) : FVec F S16x128 .f32 :=
  Nat.rec (broadcast S16x128 (bg c)) (fun m a =>
    select (andi (cmpi .eq (addi (iota .tc S16x128 32 [0] iota_S16x128_d0_w32) (broadcast S16x128 192#32)) (broadcast S16x128 (BitVec.ofNat 32 (198 + m / 4))))
        (cmpi .eq (addi (iota .tc S16x128 32 [1] iota_S16x128_d1_w32) (broadcast S16x128 128#32)) (broadcast S16x128 (BitVec.ofNat 32 (198 + m % 4)))))
      (broadcast S16x128 (Scalar.mulf (Scalar.subf (c m) (mean c)) (invStd c))) a) n

/-- The block stored over the cells' neighbourhood. -/
def region (c : Nat → F .f32) : Vec F S1x16x128 .f32 := shapeCast S1x16x128 (cells c 16) shapeCasts_S16x128_S1x16x128

end Bev

end
-- ==== Proof.Words.lean ====
/-
  Counting in packed words: a pixel adds a word with a one in one of eight 4-bit fields, fifteen pixels fit a field, four
  such sums widened to bytes fit a byte, and the bytes of 1024 lanes fit sixteen bits. The lemmas below read, at each of
  these steps, a field of the result as the number of pixels that were added to it.
-/
module

public import Idealize.ShloMosaic.Lib.PackedFields
public import Idealize.ShloMosaic.Lib.WordSum

@[expose] public section

namespace Bev

open Idealize.ShloMosaic Idealize.ShloMosaic.PackedFields

/-- The word a pixel of field `f` adds: a one in the 4-bit field `f`. -/
def hot (f : Nat) : BitVec 32 := BitVec.ofNat 32 (1 <<< (4 * f))

/-- Field `k` of the word of field `f` is one if `k = f` and zero otherwise. -/
theorem field_hot {f : Nat} (hf : f < 8) (k : Nat) : field 4 k (hot f).toNat = if k = f then 1 else 0 := by
  have : (hot f).toNat = 1 <<< (4 * f) := by
    unfold hot; rw [BitVec.toNat_ofNat, Nat.one_shiftLeft]
    exact Nat.mod_eq_of_lt (Nat.pow_lt_pow_right (by decide) (by omega))
  rw [this, field_one_shiftLeft 4 k f (by decide)]

/-- Fields of a sum of words are the sums of the fields, while every field's sum stays inside its width. -/
theorem field_sum {ι : Type*} {w n : Nat} (hn : w * n = 32) (S : Finset ι) (x : ι → BitVec 32)
    (h : ∀ k < n, ∑ i ∈ S, field w k (x i).toNat < 2 ^ w) (k : Nat) (hk : k < n) :
    field w k (∑ i ∈ S, x i).toNat = ∑ i ∈ S, field w k (x i).toNat := by
  induction S using Finset.cons_induction generalizing k with
  | empty => simp [field]
  | cons a S ha ih =>
    have hS : ∀ k < n, ∑ i ∈ S, field w k (x i).toNat < 2 ^ w := fun k hk => by
      have := h k hk; rw [Finset.sum_cons] at this; omega
    rw [Finset.sum_cons, Finset.sum_cons, ← ih hS k hk]
    refine field_addi hn (x a) (∑ i ∈ S, x i) (fun k hk => ?_) k hk
    have := h k hk
    rwa [Finset.sum_cons, ← ih hS k hk] at this

/-- The number of members of `S` with value `k`. -/
def num {ι : Type*} (S : Finset ι) (f : ι → Nat) (k : Nat) : Nat := (S.filter fun i => f i = k).card

theorem num_eq_sum {ι : Type*} (S : Finset ι) (f : ι → Nat) (k : Nat) : num S f k = ∑ i ∈ S, if k = f i then 1 else 0 := by
  unfold num; rw [Finset.card_filter]; exact Finset.sum_congr rfl fun i _ => by simp [eq_comm]

theorem num_le {ι : Type*} (S : Finset ι) (f : ι → Nat) (k : Nat) : num S f k ≤ S.card := Finset.card_filter_le _ _

/-- At most fifteen pixels' words: field `k` of their sum counts the pixels of field `k`. -/
theorem field_round {ι : Type*} (S : Finset ι) (f : ι → Nat) (hf : ∀ i ∈ S, f i < 8) (hS : S.card ≤ 15) (k : Nat) (hk : k < 8) :
    field 4 k (∑ i ∈ S, hot (f i)).toNat = num S f k := by
  have e : ∀ k, ∑ i ∈ S, field 4 k (hot (f i)).toNat = num S f k := fun k => by
    rw [num_eq_sum]; exact Finset.sum_congr rfl fun i hi => field_hot (hf i hi) k
  rw [field_sum (n := 8) (by decide) S _ (fun k _ => ?_) k hk, e]
  rw [e]; have := num_le S f k; omega

/-- A shift to the right by less than the width, under a mask that has no bit where the shift brings the sign in. -/
theorem shrsi_andi {u : ArithUnit} (a m : BitVec 32) (s : Nat) (hs : s < 32) (hm : m.toNat < 2 ^ (32 - s)) :
    IntOp.andi (IntOp.shrsi u a (BitVec.ofNat 32 s)) m = IntOp.andi (IntOp.shrui u a (BitVec.ofNat 32 s)) m := by
  have hsn : (BitVec.ofNat 32 s).toNat = s := by rw [BitVec.toNat_ofNat]; exact Nat.mod_eq_of_lt (by omega)
  unfold IntOp.andi IntOp.shrsi IntOp.shrui
  rw [if_pos (by rw [hsn]; exact hs), if_pos (by rw [hsn]; exact hs), BitVec.sshiftRight', hsn, BitVec.ushiftRight_eq', hsn]
  ext i hi
  rw [BitVec.getElem_and, BitVec.getElem_and, BitVec.getElem_sshiftRight, BitVec.getElem_ushiftRight]
  by_cases h : s + i < 32
  · rw [dif_pos h, BitVec.getLsbD_eq_getElem h]
  · have : m[i] = false := by
      rw [BitVec.getElem_eq_testBit_toNat]
      exact Nat.testBit_lt_two_pow (lt_of_lt_of_le hm (Nat.pow_le_pow_right (by decide) (by omega)))
    rw [this, Bool.and_false, Bool.and_false]

/-- The bytes of the words kept under the mask of the even nibbles. -/
theorem byte_even (i : Nat) (a : BitVec 32) : field 8 i (IntOp.andi a 252645135#32).toNat = field 4 (2 * i) a.toNat :=
  field_andi_even (w := 4) (m := 252645135#32) isEvenMask_4 i a

/-- The bytes of the words shifted by a nibble and kept under that mask. -/
theorem byte_odd {u : ArithUnit} (i : Nat) (a : BitVec 32) :
    field 8 i (IntOp.andi (IntOp.shrsi u a 4#32) 252645135#32).toNat = field 4 (2 * i + 1) a.toNat := by
  rw [show (4#32 : BitVec 32) = BitVec.ofNat 32 4 from rfl, shrsi_andi a _ 4 (by decide) (by decide)]
  exact field_shrui_andi_odd (w := 4) (m := 252645135#32) isEvenMask_4 (by decide) i a

/-- The halves of the words kept under the mask of the even bytes. -/
theorem half_even (i : Nat) (a : BitVec 32) : field 16 i (IntOp.andi a 16711935#32).toNat = field 8 (2 * i) a.toNat :=
  field_andi_even (w := 8) (m := 16711935#32) isEvenMask_8 i a

/-- The halves of the words shifted by a byte and kept under that mask. -/
theorem half_odd {u : ArithUnit} (i : Nat) (a : BitVec 32) :
    field 16 i (IntOp.andi (IntOp.shrsi u a 8#32) 16711935#32).toNat = field 8 (2 * i + 1) a.toNat := by
  rw [show (8#32 : BitVec 32) = BitVec.ofNat 32 8 from rfl, shrsi_andi a _ 8 (by decide) (by decide)]
  exact field_shrui_andi_odd (w := 8) (m := 16711935#32) isEvenMask_8 (by decide) i a

/-- The upper half of a word. -/
theorem half_high {u : ArithUnit} (a : BitVec 32) : (IntOp.andi (IntOp.shrsi u a 16#32) 65535#32).toNat = field 16 1 a.toNat := by
  rw [show (16#32 : BitVec 32) = BitVec.ofNat 32 16 from rfl, shrsi_andi a _ 16 (by decide) (by decide), toNat_andi_low16]
  rw [show BitVec.ofNat 32 16 = (16#32 : BitVec 32) from rfl, toNat_shrui_high16]
  unfold field
  rw [Nat.shiftRight_zero, Nat.mod_mod]

/-- Byte `b` of a word. -/
theorem byte_at {u : ArithUnit} (a : BitVec 32) (b : Nat) (hb : b < 4) :
    (IntOp.andi (IntOp.shrsi u a (BitVec.ofNat 32 (8 * b))) 255#32).toNat = field 8 b a.toNat := by
  rw [shrsi_andi a _ (8 * b) (by omega)
    (lt_of_lt_of_le (show (255#32 : BitVec 32).toNat < 2 ^ 8 by decide) (Nat.pow_le_pow_right (by decide) (by omega)))]
  have hn : (BitVec.ofNat 32 (8 * b)).toNat = 8 * b := by rw [BitVec.toNat_ofNat]; exact Nat.mod_eq_of_lt (by omega)
  unfold IntOp.andi IntOp.shrui field
  rw [if_pos (by rw [hn]; omega), BitVec.ushiftRight_eq', hn, BitVec.toNat_and, BitVec.toNat_ushiftRight,
    show (255#32 : BitVec 32).toNat = 2 ^ 8 - 1 from rfl, Nat.and_two_pow_sub_one_eq_mod]

/-! ### Sixty groups in four rounds of fifteen -/

/-- The groups of round `r`. -/
def grp (r : Nat) : Finset Nat := (Finset.range 15).map (addLeftEmbedding (15 * r))

theorem card_grp (r : Nat) : (grp r).card = 15 := by unfold grp; rw [Finset.card_map, Finset.card_range]

theorem mem_grp {r g : Nat} (h : g ∈ grp r) : 15 * r ≤ g ∧ g < 15 * r + 15 := by
  unfold grp at h; rw [Finset.mem_map] at h
  obtain ⟨j, hj, rfl⟩ := h
  have := Finset.mem_range.1 hj
  simp only [addLeftEmbedding_apply]; omega

/-- A sum over the sixty groups is the sum over the rounds of the sums over each round's groups. -/
theorem sum_grp {M : Type*} [AddCommMonoid M] (f : Nat → M) : ∑ r ∈ Finset.range 4, ∑ g ∈ grp r, f g = ∑ g ∈ Finset.range 60, f g := by
  have h : ∀ n, ∑ r ∈ Finset.range n, ∑ j ∈ Finset.range 15, f (15 * r + j) = ∑ g ∈ Finset.range (15 * n), f g := fun n => by
    induction n with
    | zero => simp
    | succ n ih => rw [Finset.sum_range_succ, ih, Nat.mul_succ, Finset.sum_range_add]
  unfold grp; simp only [Finset.sum_map, addLeftEmbedding_apply]
  exact h 4

end Bev
-- ==== Proof.Cell.lean ====
/-
  Which cell a pixel falls in. A pixel of row `v` and column `u` with depth `d` between 0 and 1 falls in one of sixteen
  cells; the theorems state the comparisons of `d` with the column's and the row's threshold that decide which.
-/
module

public import Idealize.ShloMosaic.Lib.IdealHost

@[expose] public section

noncomputable section

namespace Bev

/-- The first coordinate of the cell, from 198 on. -/
def ci (u : ℕ) (d : ℝ) : ℕ := (⌊((u : ℝ) - 320) * d / 250⌋ + 2).toNat

/-- The second coordinate of the cell, from 198 on. -/
def cj (v : ℕ) (d : ℝ) : ℕ := (⌊((v : ℝ) - 240) * d * 4 / 850⌋ + 2).toNat

/-- The left columns' thresholds. -/
def thrA (l : ℕ) : ℝ := 250 / (320 - (l : ℝ))

/-- The right columns' thresholds. -/
def thrC (l : ℕ) : ℝ := 250 / (192 + (l : ℝ))

/-- The rows' thresholds; 2 where no depth reaches the next cell. -/
def thrV (v : ℕ) : ℝ :=
  if ((v : ℝ) - 240) * 4 / 850 ≤ -1 then -1 / (((v : ℝ) - 240) * 4 / 850)
  else if 1 ≤ ((v : ℝ) - 240) * 4 / 850 then 1 / (((v : ℝ) - 240) * 4 / 850) else 2

theorem ci_of {u : ℕ} {d : ℝ} (k : ℕ) (h1 : (k : ℝ) - 2 ≤ ((u : ℝ) - 320) * d / 250) (h2 : ((u : ℝ) - 320) * d / 250 < (k : ℝ) - 1) :
    ci u d = k := by
  have : ⌊((u : ℝ) - 320) * d / 250⌋ = (k : ℤ) - 2 := Int.floor_eq_iff.2 ⟨by push_cast; linarith, by push_cast; linarith⟩
  unfold ci; rw [this]; omega

theorem cj_of {v : ℕ} {d : ℝ} (k : ℕ) (h1 : (k : ℝ) - 2 ≤ ((v : ℝ) - 240) * d * 4 / 850) (h2 : ((v : ℝ) - 240) * d * 4 / 850 < (k : ℝ) - 1) :
    cj v d = k := by
  have : ⌊((v : ℝ) - 240) * d * 4 / 850⌋ = (k : ℤ) - 2 := Int.floor_eq_iff.2 ⟨by push_cast; linarith, by push_cast; linarith⟩
  unfold cj; rw [this]; omega

variable {u v l : ℕ} {d : ℝ}

/-- Left of the middle, a positive depth is in the first cell past the threshold and in the second up to it. -/
theorem ci_left (hl : l < 128) (h0 : 0 < d) (h1 : d ≤ 1) : ci l d = if d ≤ thrA l then 1 else 0 := by
  have hl' : (l : ℝ) ≤ 127 := by exact_mod_cast Nat.le_of_lt_succ hl
  have hl0 : (0 : ℝ) ≤ l := Nat.cast_nonneg l
  have hp : (0 : ℝ) < 320 - l := by linarith
  split
  · next h =>
    rw [thrA, le_div_iff₀ hp] at h
    exact ci_of 1 (by push_cast; linarith) (by push_cast; nlinarith)
  · next h =>
    rw [thrA, le_div_iff₀ hp, not_le] at h
    exact ci_of 0 (by push_cast; nlinarith) (by push_cast; linarith)

/-- Near the middle column only the sign of the depth matters, left of it. -/
theorem ci_centre (hl : l < 384) (h0 : 0 ≤ d) (h1 : d ≤ 1) : ci (128 + l) d = if 0 < d ∧ 128 + l < 320 then 1 else 2 := by
  have hl' : (l : ℝ) ≤ 383 := by exact_mod_cast Nat.le_of_lt_succ hl
  have hl0 : (0 : ℝ) ≤ l := Nat.cast_nonneg l
  split
  · next h =>
    have h2 : (l : ℝ) ≤ 191 := by exact_mod_cast (show l ≤ 191 by omega)
    have := h.1
    exact ci_of 1 (by push_cast; nlinarith) (by push_cast; nlinarith)
  · next h =>
    rcases h0.eq_or_lt with rfl | h0
    · exact ci_of 2 (by simp) (by simp)
    · have h2 : (192 : ℝ) ≤ l := by exact_mod_cast (show 192 ≤ l by by_contra hc; exact h ⟨h0, by omega⟩)
      exact ci_of 2 (by push_cast; nlinarith) (by push_cast; nlinarith)

/-- Right of the middle, a depth is in the last cell from the threshold on and in the third below it. -/
theorem ci_right (hl : l < 128) (h0 : 0 ≤ d) (h1 : d ≤ 1) : ci (512 + l) d = if thrC l ≤ d then 3 else 2 := by
  have hl' : (l : ℝ) ≤ 127 := by exact_mod_cast Nat.le_of_lt_succ hl
  have hl0 : (0 : ℝ) ≤ l := Nat.cast_nonneg l
  have hp : (0 : ℝ) < 192 + l := by linarith
  split
  · next h =>
    rw [thrC, div_le_iff₀ hp] at h
    exact ci_of 3 (by push_cast; linarith) (by push_cast; nlinarith)
  · next h =>
    rw [thrC, div_le_iff₀ hp, not_le] at h
    exact ci_of 2 (by push_cast; nlinarith) (by push_cast; linarith)

/-- The uppermost 32 rows. -/
theorem cj_top (hv : v < 32) (h0 : 0 ≤ d) (h1 : d ≤ 1) : cj v d = if thrV v < d then 0 else if 0 < d then 1 else 2 := by
  have hv' : (v : ℝ) ≤ 31 := by exact_mod_cast Nat.le_of_lt_succ hv
  have hv0 : (0 : ℝ) ≤ v := Nat.cast_nonneg v
  have hn : ((v : ℝ) - 240) * 4 / 850 < 0 := by linarith
  have key : thrV v < d ↔ ((v : ℝ) - 240) * d * 4 / 850 < -1 := by
    unfold thrV
    split
    · rw [div_lt_iff_of_neg hn]; constructor <;> intro h <;> linarith
    · next h =>
      rw [if_neg (by linarith)]
      constructor
      · intro h'; linarith
      · intro h'; nlinarith
  simp only [key]
  split
  · next h => exact cj_of 0 (by push_cast; nlinarith) (by push_cast; linarith)
  · next h =>
    rw [not_lt] at h
    split
    · next h0 => exact cj_of 1 (by push_cast; linarith) (by push_cast; nlinarith)
    · next h0' =>
      obtain rfl : d = 0 := by linarith
      exact cj_of 2 (by simp) (by simp)

/-- The rows above the middle one, from row 32 on. -/
theorem cj_upper (hv : 32 ≤ v) (hv2 : v < 240) (h0 : 0 ≤ d) (h1 : d ≤ 1) : cj v d = if 0 < d then 1 else 2 := by
  have hv' : (v : ℝ) ≤ 239 := by exact_mod_cast Nat.le_of_lt_succ hv2
  have hv0 : (32 : ℝ) ≤ v := by exact_mod_cast hv
  split
  · next h => exact cj_of 1 (by push_cast; nlinarith) (by push_cast; nlinarith)
  · next h =>
    obtain rfl : d = 0 := by linarith
    exact cj_of 2 (by simp) (by simp)

/-- The rows from the middle one on, up to row 447. -/
theorem cj_lower (hv : 240 ≤ v) (hv2 : v < 448) (h0 : 0 ≤ d) (h1 : d ≤ 1) : cj v d = 2 := by
  have hv' : (v : ℝ) ≤ 447 := by exact_mod_cast Nat.le_of_lt_succ hv2
  have hv0 : (240 : ℝ) ≤ v := by exact_mod_cast hv
  exact cj_of 2 (by push_cast; nlinarith) (by push_cast; nlinarith)

/-- The lowest 32 rows. -/
theorem cj_bottom (hv : 448 ≤ v) (hv2 : v < 480) (h0 : 0 ≤ d) (h1 : d ≤ 1) : cj v d = if thrV v ≤ d then 3 else 2 := by
  have hv' : (v : ℝ) ≤ 479 := by exact_mod_cast Nat.le_of_lt_succ hv2
  have hv0 : (448 : ℝ) ≤ v := by exact_mod_cast hv
  have hn : 0 < ((v : ℝ) - 240) * 4 / 850 := by linarith
  have key : thrV v ≤ d ↔ 1 ≤ ((v : ℝ) - 240) * d * 4 / 850 := by
    unfold thrV
    rw [if_neg (by linarith)]
    split
    · rw [div_le_iff₀ hn]; constructor <;> intro h <;> linarith
    · next h =>
      constructor
      · intro h'; linarith
      · intro h'; nlinarith
  simp only [key]
  split
  · next h => exact cj_of 3 (by push_cast; linarith) (by push_cast; nlinarith)
  · next h =>
    rw [not_le] at h
    exact cj_of 2 (by push_cast; nlinarith) (by push_cast; linarith)

/-- The floor of the first coordinate, as the reference takes it, is the cell plus 198. -/
theorem floor_ci (hu : u < 640) (h0 : 0 ≤ d) (h1 : d ≤ 1) : ⌊((u : ℝ) - 320) * d / 250⌋ = (ci u d : ℤ) - 2 := by
  have hu' : (u : ℝ) ≤ 639 := by exact_mod_cast Nat.le_of_lt_succ hu
  have hu0 : (0 : ℝ) ≤ u := Nat.cast_nonneg u
  have : -2 ≤ ⌊((u : ℝ) - 320) * d / 250⌋ := Int.le_floor.2 (by push_cast; nlinarith)
  unfold ci; omega

/-- The floor of the second coordinate. -/
theorem floor_cj (hv : v < 480) (h0 : 0 ≤ d) (h1 : d ≤ 1) : ⌊((v : ℝ) - 240) * d * 4 / 850⌋ = (cj v d : ℤ) - 2 := by
  have hv' : (v : ℝ) ≤ 479 := by exact_mod_cast Nat.le_of_lt_succ hv
  have hv0 : (0 : ℝ) ≤ v := Nat.cast_nonneg v
  have : -2 ≤ ⌊((v : ℝ) - 240) * d * 4 / 850⌋ := Int.le_floor.2 (by push_cast; nlinarith)
  unfold cj; omega

/-- There are four first coordinates. -/
theorem ci_lt (hu : u < 640) (h0 : 0 ≤ d) (h1 : d ≤ 1) : ci u d < 4 := by
  have hu' : (u : ℝ) ≤ 639 := by exact_mod_cast Nat.le_of_lt_succ hu
  have hu0 : (0 : ℝ) ≤ u := Nat.cast_nonneg u
  have : ⌊((u : ℝ) - 320) * d / 250⌋ < 2 := Int.floor_lt.2 (by push_cast; nlinarith)
  have := floor_ci hu h0 h1
  omega

/-- There are four second coordinates. -/
theorem cj_lt (hv : v < 480) (h0 : 0 ≤ d) (h1 : d ≤ 1) : cj v d < 4 := by
  have hv' : (v : ℝ) ≤ 479 := by exact_mod_cast Nat.le_of_lt_succ hv
  have hv0 : (0 : ℝ) ≤ v := Nat.cast_nonneg v
  have : ⌊((v : ℝ) - 240) * d * 4 / 850⌋ < 2 := Int.floor_lt.2 (by push_cast; nlinarith)
  have := floor_cj hv h0 h1
  omega

end Bev

end
-- ==== Proof.Lanes.lean ====
/-
  The words of a group, lane by lane: over the extended reals, a pixel's word has its one in the field of its cell.
-/
module

public import proofs.«01_k».proof.Proof.Sample
public import proofs.«01_k».proof.Proof.Words
public import proofs.«01_k».proof.Proof.Cell
public import Idealize.ShloMosaic.Lib.Pointwise

@[expose] public section

noncomputable section

namespace Bev

open Idealize.ShloMosaic Idealize.SL.Sem Cert.KernelIdeal

theorem zeroF_eq : zeroF (F := Ideal) = ((0 : ℝ) : EReal) := by
  unfold zeroF; pointwise; rfl

section
variable (x : Vec Ideal S1x8x640 .f32) (r : Fin 8)

theorem rows_apply (u : Fin 640) : rows x (ix2 r u) = x (ix3 0 r u) := by
  unfold rows; pointwise

theorem colsL_apply (l : Fin 128) : colsL x (ix2 r l) = x (ix3 0 r ⟨l.val, by omega⟩) := by
  unfold colsL rows; pointwise

theorem colsC_apply (l : Fin 384) : colsC x (ix2 r l) = x (ix3 0 r ⟨128 + l.val, by omega⟩) := by
  unfold colsC rows; pointwise

theorem colsR_apply (l : Fin 128) : colsR x (ix2 r l) = x (ix3 0 r ⟨512 + l.val, by omega⟩) := by
  unfold colsR rows; pointwise

theorem thrL_apply (t : Vec Ideal S1x128 .f32) (l : Fin 128) : thrL t (ix2 r l) = t (ix2 0 l) := by
  unfold thrL; pointwise

theorem libW_apply (li : Vec Ideal S1x384 .i32) (k : BitVec 32) (l : Fin 384) :
    libW (F := Ideal) li k (ix2 r l) = IntOp.shli .vector 1#32 (IntOp.addi (li (ix2 0 l)) k) := by
  unfold libW; pointwise

theorem vert_apply (up : Bool) (tr : Vec Ideal S8x1 .f32) (u : Fin 640) (d t : ℝ) (hx : x (ix3 0 r u) = (d : EReal)) (ht : tr (ix2 r 0) = (t : EReal)) :
    vert up x tr (ix2 r u) = if up then (if t < d then 0#32 else if 0 < d then 4#32 else 8#32) else (if t ≤ d then 12#32 else 8#32) := by
  unfold vert rows
  cases up
  · simp only [Bool.false_eq_true, if_false]
    pointwise
    rw [hx, ht]; simp only [EReal.coe_le_coe_iff]
  · simp only [if_true]
    rw [zeroF_eq]
    pointwise
    rw [hx, ht]; simp only [EReal.coe_lt_coe_iff]

end

/-- The field of a left pixel, of a centre pixel and of a right one. -/
def fldL (v l : ℕ) (d : ℝ) : ℕ := 4 * ci l d + cj v d
/-- The field of a centre pixel. -/
def fldC (v l : ℕ) (d : ℝ) : ℕ := 4 * (2 - ci (128 + l) d) + cj v d
/-- The field of a right pixel. -/
def fldR (v l : ℕ) (d : ℝ) : ℕ := 4 * (ci (512 + l) d - 2) + cj v d

section Words
variable (ta tc : Vec Ideal S1x128 .f32) (li : Vec Ideal S1x384 .i32) (X : ℕ → Vec Ideal S1x8x640 .f32) (T : ℕ → Vec Ideal S8x1 .f32)
  (D : ℕ → ℕ → ℝ)

/-- The blocks hold the depths `D` and the thresholds. -/
structure Holds : Prop where
  x : ∀ g < 60, ∀ (r : Fin 8) (u : Fin 640), X g (ix3 0 r u) = ((D (8 * g + r.val) u.val : ℝ) : EReal)
  t : ∀ g < 60, ∀ r : Fin 8, T g (ix2 r 0) = ((thrV (8 * g + r.val) : ℝ) : EReal)
  a : ∀ l : Fin 128, ta (ix2 0 l) = ((thrA l.val : ℝ) : EReal)
  c : ∀ l : Fin 128, tc (ix2 0 l) = ((thrC l.val : ℝ) : EReal)
  i : ∀ l : Fin 384, li (ix2 0 l) = if 128 + l.val < 320 then 16#32 else 0#32
  nonneg : ∀ v < 480, ∀ u < 640, 0 ≤ D v u
  le : ∀ v < 480, ∀ u < 640, D v u ≤ 1
  pos : ∀ v < 480, ∀ u < 128, 0 < D v u

variable {ta tc li X T D} (h : Holds ta tc li X T D)
include h

/-- The vertical part is four times the row coordinate's cell. -/
theorem vert_eq {g : ℕ} (up : Bool) (hg : if up then g < 4 else 56 ≤ g ∧ g < 60) (r : Fin 8) (u : Fin 640) :
    vert up (X g) (T g) (ix2 r u) = BitVec.ofNat 32 (4 * cj (8 * g + r.val) (D (8 * g + r.val) u.val)) := by
  have hg' : g < 60 := by cases up <;> simp at hg <;> omega
  have hv : 8 * g + r.val < 480 := by omega
  rw [vert_apply (X g) r up (T g) u _ _ (h.x g hg' r u) (h.t g hg' r)]
  cases up
  · simp only [Bool.false_eq_true, if_false] at hg ⊢
    rw [cj_bottom (by omega) (by omega) (h.nonneg _ hv _ u.isLt) (h.le _ hv _ u.isLt)]
    split_ifs <;> rfl
  · simp only [if_true] at hg ⊢
    rw [cj_top (by omega) (h.nonneg _ hv _ u.isLt) (h.le _ hv _ u.isLt)]
    split_ifs <;> rfl

/-- A left word built by the shift. -/
theorem shiftL_eq {g : ℕ} (up : Bool) (hg : if up then g < 4 else 56 ≤ g ∧ g < 60) (r : Fin 8) (l : Fin 128) :
    shiftL ta (X g) (vert up (X g) (T g)) (ix2 r l) = hot (fldL (8 * g + r.val) l.val (D (8 * g + r.val) l.val)) := by
  have hg' : g < 60 := by cases up <;> simp at hg <;> omega
  have hv : 8 * g + r.val < 480 := by omega
  have e := vert_eq h up hg r ⟨l.val, by omega⟩
  have h0 := h.nonneg _ hv (l.val) (by omega)
  have h1 := h.le _ hv (l.val) (by omega)
  have hlt := cj_lt hv h0 h1
  unfold shiftL fldL
  rw [ci_left l.isLt (h.pos _ hv _ l.isLt) h1]
  generalize vert up (X g) (T g) = w at e
  pointwise
  rw [colsL_apply, thrL_apply, h.x g hg' r, h.a]
  simp only [EReal.coe_le_coe_iff, Nat.zero_add]
  rw [e]
  generalize cj _ _ = k at hlt
  interval_cases k <;> split_ifs <;> rfl

/-- A centre word built by the shift. -/
theorem shiftC_eq {g : ℕ} (up : Bool) (hg : if up then g < 4 else 56 ≤ g ∧ g < 60) (r : Fin 8) (l : Fin 384) :
    shiftC li (X g) (vert up (X g) (T g)) (ix2 r l) = hot (fldC (8 * g + r.val) l.val (D (8 * g + r.val) (128 + l.val))) := by
  have hg' : g < 60 := by cases up <;> simp at hg <;> omega
  have hv : 8 * g + r.val < 480 := by omega
  have e := vert_eq h up hg r ⟨128 + l.val, by omega⟩
  have h0 := h.nonneg _ hv (128 + l.val) (by omega)
  have h1 := h.le _ hv (128 + l.val) (by omega)
  have hlt := cj_lt hv h0 h1
  unfold shiftC fldC
  rw [ci_centre l.isLt h0 h1]
  generalize vert up (X g) (T g) = w at e
  rw [zeroF_eq]
  pointwise
  rw [colsC_apply, h.x g hg' r, h.i]
  simp only [EReal.coe_lt_coe_iff]
  rw [e]
  by_cases p : 0 < D (8 * g + r.val) (128 + l.val) <;> by_cases q : 128 + l.val < 320 <;> simp only [p, q, if_true, if_false, and_true, and_false, and_self]
  all_goals (generalize cj _ _ = k at hlt; interval_cases k <;> rfl)

/-- A right word built by the shift. -/
theorem shiftR_eq {g : ℕ} (up : Bool) (hg : if up then g < 4 else 56 ≤ g ∧ g < 60) (r : Fin 8) (l : Fin 128) :
    shiftR tc (X g) (vert up (X g) (T g)) (ix2 r l) = hot (fldR (8 * g + r.val) l.val (D (8 * g + r.val) (512 + l.val))) := by
  have hg' : g < 60 := by cases up <;> simp at hg <;> omega
  have hv : 8 * g + r.val < 480 := by omega
  have e := vert_eq h up hg r ⟨512 + l.val, by omega⟩
  have h0 := h.nonneg _ hv (512 + l.val) (by omega)
  have h1 := h.le _ hv (512 + l.val) (by omega)
  have hlt := cj_lt hv h0 h1
  unfold shiftR fldR
  rw [ci_right l.isLt h0 h1]
  generalize vert up (X g) (T g) = w at e
  pointwise
  rw [colsR_apply, thrL_apply, h.x g hg' r, h.c]
  simp only [EReal.coe_le_coe_iff]
  rw [e]
  generalize cj _ _ = k at hlt
  interval_cases k <;> split_ifs <;> rfl

/-- The left words of every group: the one is in the field of the pixel's cell. -/
theorem wordL_eq {g : ℕ} (hg : g < 60) (r : Fin 8) (l : Fin 128) :
    wordL ta X T g (ix2 r l) = hot (fldL (8 * g + r.val) l.val (D (8 * g + r.val) (l.val))) := by
  have hv : 8 * g + r.val < 480 := by omega
  have h0 := h.nonneg _ hv (l.val) (by omega)
  have h1 := h.le _ hv (l.val) (by omega)
  have hx := h.x g hg r ⟨l.val, by omega⟩
  unfold wordL
  by_cases a : g < 4
  · rw [if_pos a]; exact shiftL_eq h true (by simpa using a) r l
  rw [if_neg a]
  by_cases b : g < 30
  · rw [if_pos b]
    unfold fldL
    rw [cj_upper (by omega) (by omega) h0 h1, ci_left l.isLt (h.pos _ hv _ l.isLt) h1]
    rw [zeroF_eq]
    pointwise
    rw [colsL_apply, thrL_apply, hx, h.a]
    simp only [EReal.coe_le_coe_iff, EReal.coe_lt_coe_iff]
    have hp := h.pos _ hv _ l.isLt
    by_cases p : D (8 * g + r.val) l.val ≤ thrA l.val
    · simp only [p, not_lt.2 p, hp, if_true, if_false]; rfl
    · simp only [p, not_le.1 p, hp, if_true, if_false]; rfl
  rw [if_neg b]
  by_cases c : g < 56
  · rw [if_pos c]
    unfold fldL
    rw [cj_lower (by omega) (by omega) h0 h1, ci_left l.isLt (h.pos _ hv _ l.isLt) h1]
    pointwise
    rw [colsL_apply, thrL_apply, hx, h.a]
    simp only [EReal.coe_le_coe_iff]
    split_ifs <;> rfl
  rw [if_neg c]
  exact shiftL_eq h false (by rw [if_neg Bool.false_ne_true]; omega) r l

/-- The centre words of every group: the one is in the field of the pixel's cell. -/
theorem wordC_eq {g : ℕ} (hg : g < 60) (r : Fin 8) (l : Fin 384) :
    wordC li X T g (ix2 r l) = hot (fldC (8 * g + r.val) l.val (D (8 * g + r.val) (128 + l.val))) := by
  have hv : 8 * g + r.val < 480 := by omega
  have h0 := h.nonneg _ hv (128 + l.val) (by omega)
  have h1 := h.le _ hv (128 + l.val) (by omega)
  have hx := h.x g hg r ⟨128 + l.val, by omega⟩
  unfold wordC
  by_cases a : g < 4
  · rw [if_pos a]; exact shiftC_eq h true (by simpa using a) r l
  rw [if_neg a]
  by_cases b : g < 30
  · rw [if_pos b]
    unfold fldC
    rw [cj_upper (by omega) (by omega) h0 h1, ci_centre l.isLt h0 h1]
    rw [zeroF_eq]
    pointwise
    rw [colsC_apply, libW_apply, hx, h.i]
    simp only [EReal.coe_lt_coe_iff]
    by_cases p : 0 < D (8 * g + r.val) (128 + l.val) <;> by_cases q : 128 + l.val < 320 <;>
      simp only [p, q, if_true, if_false, and_true, and_false, and_self] <;> rfl
  rw [if_neg b]
  by_cases c : g < 56
  · rw [if_pos c]
    unfold fldC
    rw [cj_lower (by omega) (by omega) h0 h1, ci_centre l.isLt h0 h1]
    rw [zeroF_eq]
    pointwise
    rw [colsC_apply, libW_apply, hx, h.i]
    simp only [EReal.coe_lt_coe_iff]
    by_cases p : 0 < D (8 * g + r.val) (128 + l.val) <;> by_cases q : 128 + l.val < 320 <;>
      simp only [p, q, if_true, if_false, and_true, and_false, and_self] <;> rfl
  rw [if_neg c]
  exact shiftC_eq h false (by rw [if_neg Bool.false_ne_true]; omega) r l

/-- The right words of every group: the one is in the field of the pixel's cell. -/
theorem wordR_eq {g : ℕ} (hg : g < 60) (r : Fin 8) (l : Fin 128) :
    wordR tc X T g (ix2 r l) = hot (fldR (8 * g + r.val) l.val (D (8 * g + r.val) (512 + l.val))) := by
  have hv : 8 * g + r.val < 480 := by omega
  have h0 := h.nonneg _ hv (512 + l.val) (by omega)
  have h1 := h.le _ hv (512 + l.val) (by omega)
  have hx := h.x g hg r ⟨512 + l.val, by omega⟩
  unfold wordR
  by_cases a : g < 4
  · rw [if_pos a]; exact shiftR_eq h true (by simpa using a) r l
  rw [if_neg a]
  by_cases b : g < 30
  · rw [if_pos b]
    unfold fldR
    rw [cj_upper (by omega) (by omega) h0 h1, ci_right l.isLt h0 h1]
    rw [zeroF_eq]
    pointwise
    rw [colsR_apply, thrL_apply, hx, h.c]
    simp only [EReal.coe_le_coe_iff, EReal.coe_lt_coe_iff]
    have ht : 0 < thrC l.val := by unfold thrC; positivity
    by_cases p : thrC l.val ≤ D (8 * g + r.val) (512 + l.val)
    · simp only [p, lt_of_lt_of_le ht p, if_true]; rfl
    · simp only [p, if_false]; split_ifs <;> rfl
  rw [if_neg b]
  by_cases c : g < 56
  · rw [if_pos c]
    unfold fldR
    rw [cj_lower (by omega) (by omega) h0 h1, ci_right l.isLt h0 h1]
    pointwise
    rw [colsR_apply, thrL_apply, hx, h.c]
    simp only [EReal.coe_le_coe_iff]
    split_ifs <;> rfl
  rw [if_neg c]
  exact shiftR_eq h false (by rw [if_neg Bool.false_ne_true]; omega) r l

end Words

end Bev

end
-- ==== Proof.Count.lean ====
/-
  The counts: over the extended reals, the word read for cell `m` is the number of pixels whose cell is `m`.
-/
module

public import proofs.«01_k».proof.Proof.Lanes

@[expose] public section

noncomputable section

namespace Bev

open Idealize.ShloMosaic Idealize.ShloMosaic.PackedFields Idealize.SL.Sem Cert.KernelIdeal Cert.KernelIdeal.Facts₀ Cert.KernelIdeal.Facts

section Packed
variable {s : Shape}

/-- A running sum, at an index, is the sum of the words there. -/
theorem acc_apply (z : IVec s 32) (w : ℕ → IVec s 32) (n : ℕ) (i : s.Idx) : acc z w n i = z i + ∑ j ∈ Finset.range n, w j i := by
  induction n with
  | zero => simp [acc]
  | succ n ih =>
    rw [Finset.sum_range_succ, ← add_assoc, ← ih]; rfl

/-- A round, at an index, is the sum of its fifteen groups' words there. -/
theorem round_apply (z : IVec s 32) (hz : ∀ i, z i = 0) (w : ℕ → IVec s 32) (r : ℕ) (i : s.Idx) :
    round z w r i = ∑ g ∈ grp r, w g i := by
  show acc z _ 8 i + acc z _ 7 i = _
  rw [acc_apply, acc_apply, hz]
  unfold grp
  simp only [Finset.sum_map, addLeftEmbedding_apply, Finset.sum_range_succ, Finset.sum_range_zero]
  ring

variable (z : IVec s 32) (hz : ∀ i, z i = 0) (w : ℕ → IVec s 32) (i : s.Idx) (f : ℕ → ℕ) (hw : ∀ g < 60, w g i = hot (f g)) (hf : ∀ g < 60, f g < 8)
include hz hw hf

theorem round_field (r : ℕ) (hr : r < 4) (k : ℕ) (hk : k < 8) : field 4 k (round z w r i).toNat = num (grp r) f k := by
  have hm : ∀ g ∈ grp r, g < 60 := fun g hg => by have := mem_grp hg; omega
  rw [round_apply z hz, Finset.sum_congr rfl fun g hg => hw g (hm g hg)]
  exact field_round (grp r) f (fun g hg => hf g (hm g hg)) (by rw [card_grp]) k hk

/-- The bytes of the four rounds' widened sums count over all sixty groups. -/
theorem bytes_of (y : ℕ → BitVec 32) (e : ℕ → ℕ) (he : ∀ q < 4, e q < 8)
    (hy : ∀ r < 4, ∀ q < 4, field 8 q (y r).toNat = field 4 (e q) (round z w r i).toNat) (q : ℕ) (hq : q < 4) :
    field 8 q (∑ r ∈ Finset.range 4, y r).toNat = num (Finset.range 60) f (e q) := by
  have a : ∀ q < 4, ∑ r ∈ Finset.range 4, field 8 q (y r).toNat = num (Finset.range 60) f (e q) := fun q hq => by
    rw [num_eq_sum, ← sum_grp]
    refine Finset.sum_congr rfl fun r hr => ?_
    rw [hy r (Finset.mem_range.1 hr) q hq, round_field z hz w i f hw hf r (Finset.mem_range.1 hr) _ (he q hq), num_eq_sum]
  rw [field_sum (w := 8) (n := 4) (by decide) _ _ (fun k hk => ?_) q hq, a q hq]
  rw [a k hk]
  have := num_le (Finset.range 60) f (e k)
  rw [Finset.card_range] at this; omega

theorem evens_field (q : ℕ) (hq : q < 4) : field 8 q (evens z w i).toNat = num (Finset.range 60) f (2 * q) := by
  unfold evens
  rw [acc_apply, hz, zero_add]
  exact bytes_of z hz w i f hw hf _ (fun q => 2 * q) (fun q hq => by omega) (fun r _ q _ => byte_even q (round z w r i)) q hq

theorem odds_field (q : ℕ) (hq : q < 4) : field 8 q (odds z w i).toNat = num (Finset.range 60) f (2 * q + 1) := by
  unfold odds
  rw [acc_apply, hz, zero_add]
  exact bytes_of z hz w i f hw hf _ (fun q => 2 * q + 1) (fun q hq => by omega) (fun r _ q _ => byte_odd q (round z w r i)) q hq

end Packed

/-- A sum over the lanes, by rows and columns. -/
theorem sum_lanes {M : Type*} [AddCommMonoid M] (a : S8x128.Idx → M) : ∑ i, a i = ∑ r : Fin 8, ∑ l : Fin 128, a (ix2 r l) := sum_idx2 a

/-- The sum of all lanes. -/
theorem total_eq (a : IVec S8x128 32) : total a = ∑ i : S8x128.Idx, a i := by
  unfold total
  pointwise
  rw [sum_lanes, ← Fintype.sum_prod_type']
  exact (Finset.sum_eq_fold _ _).symm

theorem card_lanes : (Finset.univ : Finset S8x128.Idx).card = 1024 := by
  rw [Finset.card_eq_sum_ones, sum_lanes]
  simp

/-- The halves of the lanes' sum, for lanes whose halves are at most 60. -/
theorem half_sum (x : S8x128.Idx → BitVec 32) (B : S8x128.Idx → ℕ → ℕ) (hB : ∀ i p, B i p ≤ 60) (hx : ∀ i, ∀ p < 2, field 16 p (x i).toNat = B i p)
    (p : ℕ) (hp : p < 2) : field 16 p (∑ i, x i).toNat = ∑ i, B i p := by
  have a : ∀ p < 2, ∑ i, field 16 p (x i).toNat = ∑ i, B i p := fun p hp => Finset.sum_congr rfl fun i _ => hx i p hp
  rw [field_sum (w := 16) (n := 2) (by decide) _ _ (fun k hk => ?_) p hp, a p hp]
  rw [a k hk]
  have := Finset.sum_le_card_nsmul Finset.univ (fun i => B i k) 60 (fun i _ => hB i k)
  rw [card_lanes] at this
  simp only [smul_eq_mul] at this
  omega

/-- A side's field: the sum over the lanes of the lanes' counts. -/
theorem side_eq (ev od : IVec S8x128 32) (f : S8x128.Idx → ℕ → ℕ)
    (he : ∀ i, ∀ q < 4, field 8 q (ev i).toNat = num (Finset.range 60) (f i) (2 * q))
    (ho : ∀ i, ∀ q < 4, field 8 q (od i).toNat = num (Finset.range 60) (f i) (2 * q + 1)) (k : ℕ) (hk : k < 8) :
    (side ev od k).toNat = ∑ i : S8x128.Idx, num (Finset.range 60) (f i) k := by
  have hn : ∀ i k, num (Finset.range 60) (f i) k ≤ 60 := fun i k => by
    have := num_le (Finset.range 60) (f i) k; rwa [Finset.card_range] at this
  obtain ⟨a, ha, hab⟩ : ∃ a : IVec S8x128 32, (if k % 2 = 0 then ev else od) = a ∧
      ∀ i, ∀ q < 4, field 8 q (a i).toNat = num (Finset.range 60) (f i) (2 * q + k % 2) := by
    refine ⟨_, rfl, fun i q hq => ?_⟩
    by_cases c : k % 2 = 0
    · rw [if_pos c, he i q hq, c]; rfl
    · rw [if_neg c, ho i q hq, show k % 2 = 1 by omega]
  obtain ⟨s, hs, hsb⟩ : ∃ s : BitVec 32, (if k / 2 % 2 = 0 then total (andi a (broadcast S8x128 16711935#32))
      else total (andi (shrsi a (broadcast S8x128 8#32)) (broadcast S8x128 16711935#32))) = s ∧
      ∀ p < 2, field 16 p s.toNat = ∑ i : S8x128.Idx, num (Finset.range 60) (f i) (4 * p + 2 * (k / 2 % 2) + k % 2) := by
    refine ⟨_, rfl, fun p hp => ?_⟩
    by_cases c : k / 2 % 2 = 0
    · rw [if_pos c, total_eq]
      refine half_sum _ (fun i p => num (Finset.range 60) (f i) (4 * p + 2 * (k / 2 % 2) + k % 2)) (fun i p => hn i _) (fun i p hp => ?_) p hp
      refine (half_even p (a i)).trans ?_
      rw [hab i _ (by omega), c]; congr 1; omega
    · rw [if_neg c, total_eq]
      refine half_sum _ (fun i p => num (Finset.range 60) (f i) (4 * p + 2 * (k / 2 % 2) + k % 2)) (fun i p => hn i _) (fun i p hp => ?_) p hp
      refine (half_odd p (a i)).trans ?_
      rw [hab i _ (by omega), show k / 2 % 2 = 1 by omega]; congr 1; omega
  unfold side
  simp only [ha, hs]
  by_cases c : k / 4 = 0
  · rw [if_pos c]
    refine (toNat_andi_low16 s).trans ?_
    rw [hsb 0 (by decide)]
    refine Finset.sum_congr rfl fun i _ => ?_
    congr 1; omega
  · rw [if_neg c]
    refine (half_high s).trans ?_
    rw [hsb 1 (by decide)]
    refine Finset.sum_congr rfl fun i _ => ?_
    congr 1; omega

/-- The centre's field: the sum over the rows and the 384 columns of the lanes' counts. -/
theorem centre_eq (ev od : IVec S8x384 32) (f : S8x384.Idx → ℕ → ℕ)
    (he : ∀ i, ∀ q < 4, field 8 q (ev i).toNat = num (Finset.range 60) (f i) (2 * q))
    (ho : ∀ i, ∀ q < 4, field 8 q (od i).toNat = num (Finset.range 60) (f i) (2 * q + 1)) (k : ℕ) (hk : k < 8) :
    (centre ev od k).toNat = ∑ r : Fin 8, ∑ l : Fin 384, num (Finset.range 60) (f (ix2 r l)) k := by
  have hn : ∀ i k, num (Finset.range 60) (f i) k ≤ 60 := fun i k => by
    have := num_le (Finset.range 60) (f i) k; rwa [Finset.card_range] at this
  obtain ⟨a, ha, hab⟩ : ∃ a : IVec S8x384 32, (if k % 2 = 0 then ev else od) = a ∧
      ∀ i, ∀ q < 4, field 8 q (a i).toNat = num (Finset.range 60) (f i) (2 * q + k % 2) := by
    refine ⟨_, rfl, fun i q hq => ?_⟩
    by_cases c : k % 2 = 0
    · rw [if_pos c, he i q hq, c]; rfl
    · rw [if_neg c, ho i q hq, show k % 2 = 1 by omega]
  unfold centre
  simp only [ha]
  rw [total_eq]
  have hb : ∀ (r : Fin 8) (l : Fin 128), (andi (shrsi (addi (addi (extractStridedSlice S8x128 ![0, 0] a slices_S8x384_o0_0_S8x128)
      (extractStridedSlice S8x128 ![0, 128] a slices_S8x384_o0_128_S8x128)) (extractStridedSlice S8x128 ![0, 256] a slices_S8x384_o0_256_S8x128))
      (broadcast S8x128 (BitVec.ofNat 32 (8 * (k / 2))))) (broadcast S8x128 255#32) (ix2 r l)).toNat =
      num (Finset.range 60) (f (ix2 r ⟨l.val, by omega⟩)) k + num (Finset.range 60) (f (ix2 r ⟨128 + l.val, by omega⟩)) k
        + num (Finset.range 60) (f (ix2 r ⟨256 + l.val, by omega⟩)) k := by
    intro r l
    have e : k = 2 * (k / 2) + k % 2 := by omega
    pointwise
    refine (byte_at _ (k / 2) (by omega)).trans ?_
    have b : ∀ i, ∀ q < 4, field 8 q (a i).toNat ≤ 60 := fun i q hq => by rw [hab i q hq]; exact hn i _
    have h1 : ∀ i j, ∀ q < 4, field 8 q (a i).toNat + field 8 q (a j).toNat < 2 ^ 8 := fun i j q hq => by
      have := b i q hq; have := b j q hq; omega
    rw [field_addi (w := 8) (n := 4) (by decide) _ _ (fun q hq => ?_) _ (by omega), field_addi (w := 8) (n := 4) (by decide) _ _ (h1 _ _) _ (by omega),
      hab _ _ (by omega), hab _ _ (by omega), hab _ _ (by omega), ← e]
    · rw [field_addi (w := 8) (n := 4) (by decide) _ _ (h1 _ _) _ hq]
      have := b (ix2 r ⟨l.val, by omega⟩) q hq
      have := b (ix2 r ⟨128 + l.val, by omega⟩) q hq
      have := b (ix2 r ⟨256 + l.val, by omega⟩) q hq
      omega
  rw [WordSum.toNat_sum, sum_lanes]
  · refine Finset.sum_congr rfl fun r _ => ?_
    rw [Finset.sum_congr rfl fun l _ => hb r l, Finset.sum_add_distrib, Finset.sum_add_distrib]
    rw [Fin.sum_univ_add (a := 256) (b := 128) (fun l : Fin 384 => num (Finset.range 60) (f (ix2 r l)) k),
      Fin.sum_univ_add (a := 128) (b := 128) (fun l : Fin 256 => num (Finset.range 60) (f (ix2 r (Fin.castAdd 128 l))) k)]
    rfl
  · rw [sum_lanes, Finset.sum_congr rfl fun r _ => Finset.sum_congr rfl fun l _ => hb r l]
    refine lt_of_le_of_lt (Finset.sum_le_card_nsmul _ _ (128 * 180) fun r _ => (Finset.sum_le_card_nsmul _ _ 180 fun l _ => ?_).trans (by simp)) (by simp)
    have := hn (ix2 r ⟨l.val, by omega⟩) k
    have := hn (ix2 r ⟨128 + l.val, by omega⟩) k
    have := hn (ix2 r ⟨256 + l.val, by omega⟩) k
    omega

/-! ### The pixels of a cell -/

/-- A sum over sixty groups of eight rows is the sum over the 480 rows. -/
theorem sum_rows (n : ℕ) (F : ℕ → ℕ → ℕ) :
    ∑ r : Fin 8, ∑ l : Fin n, ∑ g ∈ Finset.range 60, F (8 * g + r.val) l.val = ∑ v ∈ Finset.range 480, ∑ l ∈ Finset.range n, F v l := by
  have h : ∀ (f : ℕ → ℕ) (m : ℕ), ∑ g ∈ Finset.range m, ∑ r ∈ Finset.range 8, f (8 * g + r) = ∑ v ∈ Finset.range (8 * m), f v := fun f m => by
    induction m with
    | zero => simp
    | succ m ih => rw [Finset.sum_range_succ, ih, Nat.mul_succ, Finset.sum_range_add]
  rw [show (480 : ℕ) = 8 * 60 from rfl, ← h, Finset.sum_comm, Finset.sum_range]
  simp only [Finset.sum_range]
  rw [Finset.sum_comm]
  simp only [Finset.sum_comm (s := (Finset.univ : Finset (Fin 60)))]

section Cells
variable {ta tc : Vec Ideal S1x128 .f32} {li : Vec Ideal S1x384 .i32} {X : ℕ → Vec Ideal S1x8x640 .f32} {T : ℕ → Vec Ideal S8x1 .f32}
  {D : ℕ → ℕ → ℝ}

/-- The cell of the pixel at row `v` and column `u`. -/
def cell (D : ℕ → ℕ → ℝ) (v u : ℕ) : ℕ := 4 * ci u (D v u) + cj v (D v u)

/-- The pixels of the rows and of `n` columns whose value under `f` is `k`. -/
@[irreducible] def hits (f : ℕ → ℕ → ℕ) (n k : ℕ) : ℕ := ∑ v ∈ Finset.range 480, ∑ l ∈ Finset.range n, if k = f v l then 1 else 0

theorem hits_le (f : ℕ → ℕ → ℕ) (n k : ℕ) : hits f n k ≤ 480 * n := by
  unfold hits
  refine (Finset.sum_le_card_nsmul _ _ n fun v _ => (Finset.sum_le_card_nsmul _ _ 1 fun l _ => ?_).trans (by simp)).trans (by simp)
  split_ifs <;> omega

/-- The number of pixels of cell `m`. -/
def N (D : ℕ → ℕ → ℝ) (m : ℕ) : ℕ := hits (cell D) 640 m

/-- The lanes' counts over the sixty groups add up to the pixels of a field. -/
theorem sum_num (n k : ℕ) (F : ℕ → ℕ → ℕ) :
    ∑ r : Fin 8, ∑ l : Fin n, num (Finset.range 60) (fun g => F (8 * g + r.val) l.val) k = hits F n k := by
  unfold hits
  rw [← sum_rows]
  exact Finset.sum_congr rfl fun r _ => Finset.sum_congr rfl fun l _ => num_eq_sum _ _ _

variable (h : Holds ta tc li X T D)
include h

theorem cell_bounds {v u : ℕ} (hv : v < 480) (hu : u < 640) : ci u (D v u) < 4 ∧ cj v (D v u) < 4 :=
  ⟨ci_lt hu (h.nonneg v hv u hu) (h.le v hv u hu), cj_lt hv (h.nonneg v hv u hu) (h.le v hv u hu)⟩

theorem left_bounds {v l : ℕ} (hv : v < 480) (hl : l < 128) : ci l (D v l) < 2 := by
  rw [ci_left hl (h.pos v hv l hl) (h.le v hv l (by omega))]; split_ifs <;> omega

theorem centre_bounds {v l : ℕ} (hv : v < 480) (hl : l < 384) : ci (128 + l) (D v (128 + l)) = 1 ∨ ci (128 + l) (D v (128 + l)) = 2 := by
  rw [ci_centre hl (h.nonneg v hv _ (by omega)) (h.le v hv _ (by omega))]; split_ifs <;> omega

theorem right_bounds {v l : ℕ} (hv : v < 480) (hl : l < 128) : ci (512 + l) (D v (512 + l)) = 2 ∨ ci (512 + l) (D v (512 + l)) = 3 := by
  rw [ci_right hl (h.nonneg v hv _ (by omega)) (h.le v hv _ (by omega))]; split_ifs <;> omega

theorem cntL_eq (k : ℕ) (hk : k < 8) : (cntL ta X T k).toNat = hits (fun v l => fldL v l (D v l)) 128 k := by
  have hf : ∀ (r : Fin 8) (l : Fin 128), ∀ g < 60, fldL (8 * g + r.val) l.val (D (8 * g + r.val) l.val) < 8 := fun r l g hg => by
    have := left_bounds h (v := 8 * g + r.val) (by omega) l.isLt
    have := (cell_bounds h (v := 8 * g + r.val) (u := l.val) (by omega) (by omega)).2
    unfold fldL; omega
  unfold cntL
  rw [side_eq _ _ (fun i g => fldL (8 * g + (i 0).val) (i 1).val (D (8 * g + (i 0).val) (i 1).val)) (fun i q hq => ?_) (fun i q hq => ?_) k hk,
    sum_lanes]
  · exact sum_num 128 k fun v l => fldL v l (D v l)
  · exact evens_field z128 (fun _ => rfl) _ i _ (fun g hg => by rw [eq_ix2 i]; exact wordL_eq h hg (i 0) (i 1)) (fun g hg => hf (i 0) (i 1) g hg) q hq
  · exact odds_field z128 (fun _ => rfl) _ i _ (fun g hg => by rw [eq_ix2 i]; exact wordL_eq h hg (i 0) (i 1)) (fun g hg => hf (i 0) (i 1) g hg) q hq

theorem cntC_eq (k : ℕ) (hk : k < 8) : (cntC li X T k).toNat = hits (fun v l => fldC v l (D v (128 + l))) 384 k := by
  have hf : ∀ (r : Fin 8) (l : Fin 384), ∀ g < 60, fldC (8 * g + r.val) l.val (D (8 * g + r.val) (128 + l.val)) < 8 := fun r l g hg => by
    have := centre_bounds h (v := 8 * g + r.val) (by omega) l.isLt
    have := (cell_bounds h (v := 8 * g + r.val) (u := 128 + l.val) (by omega) (by omega)).2
    unfold fldC; omega
  unfold cntC
  rw [centre_eq _ _ (fun i g => fldC (8 * g + (i 0).val) (i 1).val (D (8 * g + (i 0).val) (128 + (i 1).val))) (fun i q hq => ?_) (fun i q hq => ?_) k hk]
  · exact sum_num 384 k fun v l => fldC v l (D v (128 + l))
  · exact evens_field z384 (fun _ => rfl) _ i _ (fun g hg => by rw [eq_ix2 i]; exact wordC_eq h hg (i 0) (i 1)) (fun g hg => hf (i 0) (i 1) g hg) q hq
  · exact odds_field z384 (fun _ => rfl) _ i _ (fun g hg => by rw [eq_ix2 i]; exact wordC_eq h hg (i 0) (i 1)) (fun g hg => hf (i 0) (i 1) g hg) q hq

theorem cntR_eq (k : ℕ) (hk : k < 8) : (cntR tc X T k).toNat = hits (fun v l => fldR v l (D v (512 + l))) 128 k := by
  have hf : ∀ (r : Fin 8) (l : Fin 128), ∀ g < 60, fldR (8 * g + r.val) l.val (D (8 * g + r.val) (512 + l.val)) < 8 := fun r l g hg => by
    have := right_bounds h (v := 8 * g + r.val) (by omega) l.isLt
    have := (cell_bounds h (v := 8 * g + r.val) (u := 512 + l.val) (by omega) (by omega)).2
    unfold fldR; omega
  unfold cntR
  rw [side_eq _ _ (fun i g => fldR (8 * g + (i 0).val) (i 1).val (D (8 * g + (i 0).val) (512 + (i 1).val))) (fun i q hq => ?_) (fun i q hq => ?_) k hk,
    sum_lanes]
  · exact sum_num 128 k fun v l => fldR v l (D v (512 + l))
  · exact evens_field z128 (fun _ => rfl) _ i _ (fun g hg => by rw [eq_ix2 i]; exact wordR_eq h hg (i 0) (i 1)) (fun g hg => hf (i 0) (i 1) g hg) q hq
  · exact odds_field z128 (fun _ => rfl) _ i _ (fun g hg => by rw [eq_ix2 i]; exact wordR_eq h hg (i 0) (i 1)) (fun g hg => hf (i 0) (i 1) g hg) q hq

omit h in
/-- The pixels of a cell, by the three blocks of columns. -/
theorem N_split (m : ℕ) : N D m = hits (fun v l => cell D v l) 128 m + hits (fun v l => cell D v (128 + l)) 384 m + hits (fun v l => cell D v (512 + l)) 128 m := by
  unfold N hits
  rw [← Finset.sum_add_distrib, ← Finset.sum_add_distrib]
  refine Finset.sum_congr rfl fun v _ => ?_
  rw [show 640 = 128 + 384 + 128 from rfl, Finset.sum_range_add, Finset.sum_range_add]

omit h in
theorem hits_congr (f g : ℕ → ℕ → ℕ) (n j k : ℕ) (e : ∀ v < 480, ∀ l < n, (j = f v l ↔ k = g v l)) : hits f n j = hits g n k := by
  unfold hits
  exact Finset.sum_congr rfl fun v hv => Finset.sum_congr rfl fun l hl => if_congr (e v (Finset.mem_range.1 hv) l (Finset.mem_range.1 hl)) rfl rfl

omit h in
theorem hits_zero (f : ℕ → ℕ → ℕ) (n k : ℕ) (e : ∀ v < 480, ∀ l < n, k ≠ f v l) : hits f n k = 0 := by
  unfold hits
  exact Finset.sum_eq_zero fun v hv => Finset.sum_eq_zero fun l hl => if_neg (e v (Finset.mem_range.1 hv) l (Finset.mem_range.1 hl))

/-- The count of cell `m` is the number of its pixels. -/
theorem cnt_eq (m : ℕ) (hm : m < 16) : (cnt ta tc li X T m).toNat = N D m := by
  have L : ∀ v < 480, ∀ l < 128, ci l (D v l) < 2 ∧ cj v (D v l) < 4 := fun v hv l hl =>
    ⟨left_bounds h hv hl, (cell_bounds h hv (by omega)).2⟩
  have C : ∀ v < 480, ∀ l < 384, (ci (128 + l) (D v (128 + l)) = 1 ∨ ci (128 + l) (D v (128 + l)) = 2) ∧ cj v (D v (128 + l)) < 4 := fun v hv l hl =>
    ⟨centre_bounds h hv hl, (cell_bounds h hv (by omega)).2⟩
  have R : ∀ v < 480, ∀ l < 128, (ci (512 + l) (D v (512 + l)) = 2 ∨ ci (512 + l) (D v (512 + l)) = 3) ∧ cj v (D v (512 + l)) < 4 := fun v hv l hl =>
    ⟨right_bounds h hv hl, (cell_bounds h hv (by omega)).2⟩
  have add : ∀ a b : BitVec 32, a.toNat ≤ 480 * 384 → b.toNat ≤ 480 * 384 → (Scalar.addi a b).toNat = a.toNat + b.toNat := fun a b ha hb => by
    show (a + b).toNat = _
    rw [BitVec.toNat_add, Nat.mod_eq_of_lt (by omega)]
  have lL := fun k => hits_le (fun v l => fldL v l (D v l)) 128 k
  have lC := fun k => hits_le (fun v l => fldC v l (D v (128 + l))) 384 k
  have lR := fun k => hits_le (fun v l => fldR v l (D v (512 + l))) 128 k
  rw [N_split]
  unfold cnt
  by_cases c0 : m / 4 = 0
  · rw [if_pos c0, cntL_eq h _ (by omega),
      hits_zero (fun v l => cell D v (128 + l)) 384 m fun v hv l hl => by have := C v hv l hl; unfold cell; omega,
      hits_zero (fun v l => cell D v (512 + l)) 128 m fun v hv l hl => by have := R v hv l hl; unfold cell; omega, Nat.add_zero]
    exact hits_congr _ _ _ _ _ fun v hv l hl => by have := L v hv l hl; unfold cell fldL; omega
  rw [if_neg c0]
  by_cases c1 : m / 4 = 1
  · rw [if_pos c1, add _ _ (by rw [cntL_eq h _ (by omega)]; have := lL (4 + m % 4); omega) (by rw [cntC_eq h _ (by omega)]; exact lC _),
      cntL_eq h _ (by omega), cntC_eq h _ (by omega),
      hits_zero (fun v l => cell D v (512 + l)) 128 m fun v hv l hl => by have := R v hv l hl; unfold cell; omega, Nat.add_zero]
    rw [hits_congr (fun v l => fldL v l (D v l)) (fun v l => cell D v l) 128 _ m fun v hv l hl => by have := L v hv l hl; unfold cell fldL; omega,
      hits_congr (fun v l => fldC v l (D v (128 + l))) (fun v l => cell D v (128 + l)) 384 _ m fun v hv l hl => by have := C v hv l hl; unfold cell fldC; omega]
  rw [if_neg c1]
  by_cases c2 : m / 4 = 2
  · rw [if_pos c2, add _ _ (by rw [cntC_eq h _ (by omega)]; exact lC _) (by rw [cntR_eq h _ (by omega)]; have := lR (m % 4); omega),
      cntC_eq h _ (by omega), cntR_eq h _ (by omega),
      hits_zero (fun v l => cell D v l) 128 m fun v hv l hl => by have := L v hv l hl; unfold cell; omega]
    rw [hits_congr (fun v l => fldR v l (D v (512 + l))) (fun v l => cell D v (512 + l)) 128 _ m fun v hv l hl => by have := R v hv l hl; unfold cell fldR; omega,
      hits_congr (fun v l => fldC v l (D v (128 + l))) (fun v l => cell D v (128 + l)) 384 _ m fun v hv l hl => by have := C v hv l hl; unfold cell fldC; omega, zero_add]
  rw [if_neg c2, cntR_eq h _ (by omega),
    hits_zero (fun v l => cell D v (128 + l)) 384 m fun v hv l hl => by have := C v hv l hl; unfold cell; omega,
    hits_zero (fun v l => cell D v l) 128 m fun v hv l hl => by have := L v hv l hl; unfold cell; omega, zero_add, zero_add]
  exact hits_congr _ _ _ _ _ fun v hv l hl => by have := R v hv l hl; unfold cell fldR; omega

/-- The count of cell `m`, as a real. -/
theorem cntF_eq (m : ℕ) (hm : m < 16) : cntF ta tc li X T m = (((N D m : ℕ) : ℝ) : EReal) := by
  have e := cnt_eq h m hm
  have l := hits_le (cell D) 640 m
  show (((cnt ta tc li X T m).toInt : ℝ) : EReal) = _
  rw [BitVec.toInt_eq_toNat_of_lt (by rw [e]; unfold N; omega), e]
  rfl

end Cells

/-- The cells of pixels of depths within range number sixteen. -/
theorem cell_lt (D : ℕ → ℕ → ℝ) (h0 : ∀ v < 480, ∀ u < 640, 0 ≤ D v u) (h1 : ∀ v < 480, ∀ u < 640, D v u ≤ 1) (v : ℕ) (hv : v < 480)
    (u : ℕ) (hu : u < 640) : cell D v u < 16 := by
  have := ci_lt hu (h0 v hv u hu) (h1 v hv u hu)
  have := cj_lt hv (h0 v hv u hu) (h1 v hv u hu)
  unfold cell; omega

/-- Every pixel is in one of the sixteen cells. -/
theorem sum_cells (D : ℕ → ℕ → ℝ) (h0 : ∀ v < 480, ∀ u < 640, 0 ≤ D v u) (h1 : ∀ v < 480, ∀ u < 640, D v u ≤ 1) :
    ∑ m ∈ Finset.range 16, N D m = 307200 := by
  unfold N hits
  rw [Finset.sum_comm, Finset.sum_congr rfl fun v hv => Finset.sum_comm,
    Finset.sum_congr rfl fun v hv => Finset.sum_congr rfl fun u hu => (?_ : _ = 1)]
  · simp
  · rw [Finset.sum_ite_eq', if_pos]
    exact Finset.mem_range.2 (cell_lt D h0 h1 v (Finset.mem_range.1 hv) u (Finset.mem_range.1 hu))

/-- Every pixel is in one of the sixteen cells, where the kernel counts. -/
theorem sum_N {ta tc : FVec Ideal S1x128 .f32} {li : IVec S1x384 32} {X : ℕ → FVec Ideal S1x8x640 .f32} {T : ℕ → FVec Ideal S8x1 .f32}
    {D : ℕ → ℕ → ℝ} (h : Holds ta tc li X T D) : ∑ m ∈ Finset.range 16, N D m = 307200 := sum_cells D h.nonneg h.le

end Bev

end
-- ==== Proof.Stats.lean ====
/-
  The normalisation: for sixteen natural counts, the kernel's mean, reciprocal deviation and stored blocks are those of the
  400 by 400 grid that has these counts in the sixteen cells and zero elsewhere.
-/
module

public import proofs.«01_k».proof.Proof.Sample
public import Idealize.ShloMosaic.Lib.IdealHost
public import Idealize.ShloMosaic.Lib.Pointwise

@[expose] public section

noncomputable section

namespace Bev

open Idealize.ShloMosaic Idealize.SL.Sem Cert.KernelIdeal Cert.KernelIdeal.Facts₀ Cert.KernelIdeal.Facts

/-- The mean over the 160000 cells. -/
def mu (n : ℕ → ℕ) : ℝ := (∑ m ∈ Finset.range 16, (n m : ℝ)) / 160000

/-- The sum of the squared deviations over the 160000 cells. -/
def dev2 (n : ℕ → ℕ) : ℝ := ∑ m ∈ Finset.range 16, ((n m : ℝ) - mu n) * ((n m : ℝ) - mu n) + 159984 * mu n * mu n

/-- The deviation. -/
def dev (n : ℕ → ℕ) : ℝ := Real.sqrt (dev2 n / 159999)

/-- The grid's count at row `i` and column `j`. -/
def grid (n : ℕ → ℕ) (i j : ℕ) : ℕ := if 198 ≤ i ∧ i < 202 ∧ 198 ≤ j ∧ j < 202 then n (4 * (i - 198) + (j - 198)) else 0

/-- The normalised grid. -/
def out (n : ℕ → ℕ) (i j : ℕ) : ℝ := ((grid n i j : ℕ) - mu n) / dev n

theorem ofBits_160000 : Ideal.ofBits .f32 0x481C4000#32 = ((160000 : ℝ) : EReal) := by
  simp [Ideal.ofBits, Ideal.ieee]; rw [← EReal.coe_mul]; norm_num
theorem ofBits_159984 : Ideal.ofBits .f32 0x481C3C00#32 = ((159984 : ℝ) : EReal) := by
  simp [Ideal.ofBits, Ideal.ieee]; rw [← EReal.coe_mul]; norm_num
theorem ofBits_159999 : Ideal.ofBits .f32 0x481C3FC0#32 = ((159999 : ℝ) : EReal) := by
  simp [Ideal.ofBits, Ideal.ieee]; rw [← EReal.coe_mul]; norm_num

theorem div_real (a b : ℝ) (hb : b ≠ 0) : Ideal.div (a : EReal) (b : EReal) = ((a / b : ℝ) : EReal) := by
  rw [Ideal.div_coe hb, ← EReal.coe_mul]; congr 1; ring

theorem eq_word (a p b : ℕ) (h : a + p < 2 ^ 32) (hb : b < 2 ^ 32) :
    IntOp.cmpi .eq (IntOp.addi (BitVec.ofNat 32 a) (BitVec.ofNat 32 p)) (BitVec.ofNat 32 b) = BitVec.ofBool (decide (a + p = b)) := by
  have e : (BitVec.ofNat 32 a + BitVec.ofNat 32 p = BitVec.ofNat 32 b) ↔ a + p = b := by
    rw [← BitVec.ofNat_add, ← BitVec.toNat_inj, BitVec.toNat_ofNat, BitVec.toNat_ofNat, Nat.mod_eq_of_lt h, Nat.mod_eq_of_lt hb]
  show BitVec.ofBool (BitVec.ofNat 32 a + BitVec.ofNat 32 p == BitVec.ofNat 32 b) = _
  congr 1
  rw [beq_eq_decide, decide_eq_decide]; exact e

/-- A selection where two sums of words both take given values. -/
theorem select_both {α : Type} (a p b a' p' b' : ℕ) (h : a + p < 2 ^ 32) (hb : b < 2 ^ 32) (h' : a' + p' < 2 ^ 32) (hb' : b' < 2 ^ 32) (x y : α) :
    Scalar.select (IntOp.andi (IntOp.cmpi .eq (IntOp.addi (BitVec.ofNat 32 a) (BitVec.ofNat 32 p)) (BitVec.ofNat 32 b))
      (IntOp.cmpi .eq (IntOp.addi (BitVec.ofNat 32 a') (BitVec.ofNat 32 p')) (BitVec.ofNat 32 b'))) x y = if a + p = b ∧ a' + p' = b' then x else y := by
  rw [eq_word a p b h hb, eq_word a' p' b' h' hb']
  by_cases c : a + p = b <;> by_cases c' : a' + p' = b' <;> simp [c, c', Scalar.select, IntOp.andi]

section
variable (n : ℕ → ℕ) (hn : ∑ m ∈ Finset.range 16, n m = 307200)
include hn

theorem mu_pos : 0 < mu n := by
  have : (∑ m ∈ Finset.range 16, (n m : ℝ)) = 307200 := by exact_mod_cast hn
  unfold mu; rw [this]; norm_num

theorem dev2_pos : 0 < dev2 n := by
  have h := mu_pos n hn
  have : 0 ≤ ∑ m ∈ Finset.range 16, ((n m : ℝ) - mu n) * ((n m : ℝ) - mu n) := Finset.sum_nonneg fun m _ => mul_self_nonneg _
  unfold dev2; nlinarith [mul_pos h h]

theorem dev_pos : 0 < dev n := Real.sqrt_pos.2 (div_pos (dev2_pos n hn) (by norm_num))

variable (c : ℕ → Ideal .f32) (hc : ∀ m < 16, c m = (((n m : ℕ) : ℝ) : EReal))

omit hn in
theorem sumTo_eq (f : ℕ → Ideal .f32) (g : ℕ → ℝ) (k : ℕ) (hf : ∀ m ≤ k, f m = ((g m : ℝ) : EReal)) :
    sumTo f k = ((∑ m ∈ Finset.range (k + 1), g m : ℝ) : EReal) := by
  induction k with
  | zero => rw [Finset.sum_range_one]; exact hf 0 le_rfl
  | succ k ih =>
    rw [Finset.sum_range_succ, EReal.coe_add, ← ih fun m hm => hf m (by omega), ← hf (k + 1) le_rfl]; rfl

include hc
omit hn in
theorem mean_eq : mean c = ((mu n : ℝ) : EReal) := by
  unfold mean
  rw [sumTo_eq c (fun m => (n m : ℝ)) 15 fun m hm => hc m (by omega)]
  show Ideal.div _ (Ideal.ofBits .f32 0x481C4000#32) = _
  rw [ofBits_160000, div_real _ _ (by norm_num)]; rfl

theorem invStd_eq : invStd c = ((1 / dev n : ℝ) : EReal) := by
  have hd := dev_pos n hn
  have e : sumTo (fun k => Scalar.mulf (Scalar.subf (c k) (mean c)) (Scalar.subf (c k) (mean c))) 15 =
      ((∑ m ∈ Finset.range 16, ((n m : ℝ) - mu n) * ((n m : ℝ) - mu n) : ℝ) : EReal) :=
    sumTo_eq _ (fun m => ((n m : ℝ) - mu n) * ((n m : ℝ) - mu n)) 15 fun m hm => by
      rw [mean_eq n c hc, hc m (by omega), EReal.coe_mul, EReal.coe_sub]; rfl
  unfold invStd
  rw [e, mean_eq n c hc]
  show Ideal.div (Ideal.ofBits .f32 0x3F800000#32) (Ideal.sqrt (Ideal.div (_ + Ideal.ofBits .f32 0x481C3C00#32 * _ * _) (Ideal.ofBits .f32 0x481C3FC0#32))) = _
  rw [ofBits_159984, ofBits_159999, Ideal.ofBits_one_f32, ← EReal.coe_mul, ← EReal.coe_mul, ← EReal.coe_add, div_real _ _ (by norm_num), Ideal.sqrt_coe,
    show (∑ m ∈ Finset.range 16, ((n m : ℝ) - mu n) * ((n m : ℝ) - mu n) + 159984 * mu n * mu n) = dev2 n from rfl,
    if_neg (not_lt.2 (le_of_lt (div_pos (dev2_pos n hn) (by norm_num : (0 : ℝ) < 159999))))]
  exact div_real 1 (dev n) (ne_of_gt hd)

/-- A cell's stored value. -/
theorem cell_eq (m : ℕ) (hm : m < 16) : Scalar.mulf (Scalar.subf (c m) (mean c)) (invStd c) = (((n m - mu n) / dev n : ℝ) : EReal) := by
  rw [mean_eq n c hc, invStd_eq n hn c hc, hc m hm, div_eq_mul_one_div (n m - mu n : ℝ), EReal.coe_mul (n m - mu n : ℝ), EReal.coe_sub]; rfl

/-- The empty cell's stored value. -/
theorem bg_eq : bg c = (((0 - mu n) / dev n : ℝ) : EReal) := by
  unfold bg
  rw [mean_eq n c hc, invStd_eq n hn c hc, div_eq_mul_one_div (0 - mu n : ℝ), EReal.coe_mul (0 - mu n : ℝ), EReal.coe_sub]
  congr 2
  unfold zeroF; exact Ideal.ofBits_zero_f32

omit hc hn in
theorem cells_apply (k : ℕ) (hk : k ≤ 16) (i : Fin 16) (j : Fin 128) : cells c k (ix2 i j) =
    if 6 ≤ i.val ∧ i.val < 10 ∧ 70 ≤ j.val ∧ j.val < 74 ∧ 4 * (i.val - 6) + (j.val - 70) < k
    then Scalar.mulf (Scalar.subf (c (4 * (i.val - 6) + (j.val - 70))) (mean c)) (invStd c) else bg c := by
  induction k with
  | zero => rw [if_neg (by omega)]; rfl
  | succ k ih =>
    have s : cells c (k + 1) = select (andi (cmpi .eq (addi (iota .tc S16x128 32 [0] iota_S16x128_d0_w32) (broadcast S16x128 192#32)) (broadcast S16x128 (BitVec.ofNat 32 (198 + k / 4))))
        (cmpi .eq (addi (iota .tc S16x128 32 [1] iota_S16x128_d1_w32) (broadcast S16x128 128#32)) (broadcast S16x128 (BitVec.ofNat 32 (198 + k % 4)))))
      (broadcast S16x128 (Scalar.mulf (Scalar.subf (c k) (mean c)) (invStd c))) (cells c k) := rfl
    rw [s]
    pointwise
    rw [ih (by omega), select_both _ _ _ _ _ _ (by omega) (by omega) (by omega) (by omega)]
    by_cases e : i.val + 192 = 198 + k / 4 ∧ j.val + 128 = 198 + k % 4
    · rw [if_pos e, if_pos (by omega), show 4 * (i.val - 6) + (j.val - 70) = k by omega]
    · rw [if_neg e]
      by_cases q : 6 ≤ i.val ∧ i.val < 10 ∧ 70 ≤ j.val ∧ j.val < 74 ∧ 4 * (i.val - 6) + (j.val - 70) < k
      · rw [if_pos q, if_pos (by omega)]; rfl
      · rw [if_neg q, if_neg (by omega)]

/-- The block stored over the whole sample, at an index. -/
theorem full_apply (i j : Fin 400) : full c (ix3 0 i j) = (((0 - mu n) / dev n : ℝ) : EReal) := by
  rw [← bg_eq n hn c hc]; unfold full; pointwise

/-- The block stored over the cells' neighbourhood, at an index. -/
theorem region_apply (i : Fin 16) (j : Fin 128) : region c (ix3 0 i j) = ((out n (192 + i.val) (128 + j.val) : ℝ) : EReal) := by
  have e : region c (ix3 0 i j) = cells c 16 (ix2 i j) := by unfold region; pointwise
  rw [e, cells_apply c 16 le_rfl]
  unfold out grid
  by_cases q : 6 ≤ i.val ∧ i.val < 10 ∧ 70 ≤ j.val ∧ j.val < 74
  · rw [if_pos (by omega), if_pos (by omega), cell_eq n hn c hc _ (by omega),
      show 4 * (192 + i.val - 198) + (128 + j.val - 198) = 4 * (i.val - 6) + (j.val - 70) by omega]
  · rw [if_neg (by omega), if_neg (by omega), bg_eq n hn c hc, Nat.cast_zero]

omit hc hn c in
/-- Outside the neighbourhood every cell is empty. -/
theorem out_far (i j : ℕ) (h : i < 192 ∨ 208 ≤ i ∨ j < 128 ∨ 256 ≤ j) : out n i j = (0 - mu n) / dev n := by
  unfold out grid; rw [if_neg (by omega), Nat.cast_zero]

end

end Bev

end
-- ==== Proof.Answer.lean ====
/-
  The common value of the two programs, and what the precondition says of the depths.
-/
module

public import proofs.«01_k».proof.Proof.Count
public import proofs.«01_k».proof.Proof.Stats
public import proofs.«01_k».proof.Pre_in_range
public import Idealize.ShloMosaic.Lib.ReduceAll
public import Idealize.ShloMosaic.Lib.Pointwise

@[expose] public section

noncomputable section

namespace Bev

open Idealize.ShloMosaic

/-- The shape of the depths. -/
abbrev Depths : Shape := ⟨3, ![8, 480, 640]⟩

/-- The shape of the maps. -/
abbrev Maps : Shape := ⟨3, ![8, 400, 400]⟩

/-- The depth of pixel `(v, u)` of sample `b`, as a real number. -/
def depth (X : Depths.Idx → EReal) (b v u : ℕ) : ℝ :=
  (X (ix3 (⟨b % 8, Nat.mod_lt _ (by omega)⟩ : Fin 8) (⟨v % 480, Nat.mod_lt _ (by omega)⟩ : Fin 480)
    (⟨u % 640, Nat.mod_lt _ (by omega)⟩ : Fin 640))).toReal

/-- The maps: each sample's histogram, normalized. -/
def answer (X : Depths.Idx → EReal) : Maps.Idx → EReal :=
  fun i => ((out (N (depth X (i 0).val)) (i 1).val (i 2).val : ℝ) : EReal)

/-- The depths lie between 0 and 1, and are positive on the first 128 columns. -/
structure InRange (X : Depths.Idx → EReal) : Prop where
  nonneg : ∀ (b : Fin 8) (v : Fin 480) (u : Fin 640), 0 ≤ X (ix3 b v u)
  le : ∀ (b : Fin 8) (v : Fin 480) (u : Fin 640), X (ix3 b v u) ≤ 1
  pos : ∀ (b : Fin 8) (v : Fin 480) (u : Fin 640), u.val < 128 → 0 < X (ix3 b v u)

variable {X : Depths.Idx → EReal}

/-- A depth in range is the real number that `depth` reads. -/
theorem InRange.coe (h : InRange X) (b : Fin 8) (v : Fin 480) (u : Fin 640) :
    X (ix3 b v u) = ((depth X b v u : ℝ) : EReal) := by
  have e : depth X b v u = (X (ix3 b v u)).toReal := by
    unfold depth
    congr 4 <;> exact Nat.mod_eq_of_lt (Fin.isLt _)
  rw [e, EReal.coe_toReal]
  · intro h'; have := h.le b v u; rw [h'] at this; exact absurd this (by decide)
  · intro h'; have := h.nonneg b v u; rw [h'] at this; exact absurd this (by decide)

/-- A depth in range is at least 0. -/
theorem InRange.depth_nonneg (h : InRange X) (b v u : ℕ) (hb : b < 8) (hv : v < 480) (hu : u < 640) : 0 ≤ depth X b v u := by
  have := h.nonneg ⟨b, hb⟩ ⟨v, hv⟩ ⟨u, hu⟩
  rw [h.coe] at this
  exact_mod_cast this

/-- A depth in range is at most 1. -/
theorem InRange.depth_le (h : InRange X) (b v u : ℕ) (hb : b < 8) (hv : v < 480) (hu : u < 640) : depth X b v u ≤ 1 := by
  have := h.le ⟨b, hb⟩ ⟨v, hv⟩ ⟨u, hu⟩
  rw [h.coe] at this
  exact_mod_cast this

/-- A depth in range is positive on the first 128 columns. -/
theorem InRange.depth_pos (h : InRange X) (b v u : ℕ) (hb : b < 8) (hv : v < 480) (hu : u < 128) : 0 < depth X b v u := by
  have := h.pos ⟨b, hb⟩ ⟨v, hv⟩ ⟨u, by omega⟩ hu
  rw [h.coe] at this
  exact_mod_cast this

/-- Two bits whose conjunction is 1 are 1. -/
theorem and_one (a b : BitVec 1) (h : IntOp.andi a b = 1#1) : a = 1#1 ∧ b = 1#1 := by
  revert a b; decide

/-- A truth value whose bit is 1 holds. -/
theorem bit_one {p : Prop} [Decidable p] (h : BitVec.ofBool (decide p) = 1#1) : p := by
  by_contra hp
  rw [decide_eq_false hp] at h
  exact absurd h (by decide)

instance : Subsingleton Cert.Pre_in_range.S_.Idx := ⟨fun a b => funext fun k => k.elim0⟩

/-- The precondition's function computes 1 only of depths in range. -/
theorem inRange_of_pre [Cert.Pre_in_range.Facts] (X : FVec Ideal Depths .f32) (i)
    (h : Cert.Pre_in_range.fn (F := Ideal) X i = 1#1) : InRange X := by
  unfold Cert.Pre_in_range.fn at h
  obtain ⟨h1, h2⟩ := and_one _ _ h
  have e1 := fun k => Host.reduce_andi_all _ _ _ _ _ h1 k
  have e2 := fun k => Host.reduce_andi_all _ _ _ _ _ h2 k
  refine ⟨fun b v u => ?_, fun b v u => ?_, fun b v u hu => ?_⟩
  · have := (and_one _ _ (e1 (ix3 b v u))).1
    pointwise at this
    exact bit_one this
  · have := (and_one _ _ (e1 (ix3 b v u))).2
    pointwise at this
    exact bit_one this
  · have := e2 (ix3 b v (⟨u.val, hu⟩ : Fin 128))
    pointwise at this
    exact bit_one this

end Bev

end
-- ==== Proof.Tables.lean ====
/-
  The host's four tables as the kernel finds them: the column thresholds, the centre's field offsets, the row thresholds.
-/
module

public import proofs.«01_k».proof.Proof.Cell
public import proofs.«01_k».proof.Proof.Stats
public import proofs.«01_k».proof.Proof.Gen.KernelIdeal.Frame.Runs
public import Idealize.ShloMosaic.Lib.StableHlo.Run
public import Idealize.ShloMosaic.Lib.Pointwise

@[expose] public section

set_option maxRecDepth 16384

noncomputable section

namespace Bev

open Idealize.ShloMosaic Idealize.ShloMosaic.TcCoe Idealize.ShloMosaic.Tactic Idealize.SL.Sem
open Cert.KernelIdeal Cert.KernelIdeal.Gen

/-! The float constants of the tables, as real numbers. -/

theorem bits_neg_one : Ideal.ofBits .f32 3212836864#32 = ((-1 : ℝ) : EReal) := by
  simp [Ideal.ofBits, Ideal.ieee]; rw [← EReal.coe_mul]; norm_num

theorem bits_320 : Ideal.ofBits .f32 1134559232#32 = ((320 : ℝ) : EReal) := by
  simp [Ideal.ofBits, Ideal.ieee]; rw [← EReal.coe_mul]; norm_num

theorem bits_4 : Ideal.ofBits .f32 1082130432#32 = ((4 : ℝ) : EReal) := by
  simp [Ideal.ofBits, Ideal.ieee]; rw [← EReal.coe_mul]; norm_num

theorem bits_1000 : Ideal.ofBits .f32 1148846080#32 = ((1000 : ℝ) : EReal) := by
  simp [Ideal.ofBits, Ideal.ieee]; rw [← EReal.coe_mul]; norm_num

theorem bits_512 : Ideal.ofBits .f32 1140850688#32 = ((512 : ℝ) : EReal) := by
  simp [Ideal.ofBits, Ideal.ieee]; rw [← EReal.coe_mul]; norm_num

theorem bits_240 : Ideal.ofBits .f32 1131413504#32 = ((240 : ℝ) : EReal) := by
  simp [Ideal.ofBits, Ideal.ieee]; rw [← EReal.coe_mul]; norm_num

theorem bits_850 : Ideal.ofBits .f32 1146388480#32 = ((850 : ℝ) : EReal) := by
  simp [Ideal.ofBits, Ideal.ieee]; rw [← EReal.coe_mul]; norm_num

theorem bits_2 : Ideal.ofBits .f32 1073741824#32 = ((2 : ℝ) : EReal) := by
  simp [Ideal.ofBits, Ideal.ieee]; rw [← EReal.coe_mul]; norm_num

/-- A small count read as a float is that number. -/
theorem float_word (n : ℕ) (hn : n < 2147483648) :
    (FloatOps.sitofp (F := Ideal) .f32 (BitVec.ofNat 32 n)) = (((n : ℕ) : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat] <;> omega
  rw [this]; norm_num

/-- The left table holds, at lane `l`, the threshold of column `l`. -/
theorem tableA (m : (ℓ : Loc nD τ sig) → Buf (Elt Ideal) ℓ) (c : Dev nD) (l : Fin 128) :
    (V m c main_v9 : Vec Ideal S1x128 .f32) (ix2 0 l) = ((thrA l : ℝ) : EReal) := by
  show StableHlo.after (List.flatten [hostOps0, hostOps0_1, hostOps0_2]) (fun b => m (c, b)) (Proc.devRef .tc main_v9) (ix2 0 l) = _
  simp only [List.flatten_cons, List.flatten_nil, List.append_nil, List.cons_append, List.nil_append]
  after_results_simp
  pointwise
  rw [bits_neg_one, bits_320, bits_4, bits_1000, float_word _ (by omega), ← EReal.coe_sub, ← EReal.coe_mul, div_real _ _ (by norm_num)]
  have h : ((l.val : ℝ) - 320) < 0 := by have : (l.val : ℝ) < 128 := by exact_mod_cast l.isLt
                                         linarith
  rw [div_real _ _ (by intro h'; linarith), thrA]
  congr 1
  have h1 : (l.val : ℝ) - 320 ≠ 0 := h.ne
  have h2 : 320 - (l.val : ℝ) ≠ 0 := by intro h'; linarith
  field_simp
  ring

/-- The right table holds, at lane `l`, the threshold of column `512 + l`. -/
theorem tableC (m : (ℓ : Loc nD τ sig) → Buf (Elt Ideal) ℓ) (c : Dev nD) (l : Fin 128) :
    (V m c main_v21 : Vec Ideal S1x128 .f32) (ix2 0 l) = ((thrC l : ℝ) : EReal) := by
  show StableHlo.after (List.flatten [hostOps0, hostOps0_1, hostOps0_2]) (fun b => m (c, b)) (Proc.devRef .tc main_v21) (ix2 0 l) = _
  simp only [List.flatten_cons, List.flatten_nil, List.append_nil, List.cons_append, List.nil_append]
  after_results_simp
  pointwise
  rw [bits_512, bits_320, bits_4, bits_1000, float_word _ (by omega), ← EReal.coe_add, ← EReal.coe_sub, ← EReal.coe_mul,
    div_real _ _ (by norm_num), ← EReal.coe_one]
  have h : 0 ≤ (l.val : ℝ) := by positivity
  rw [div_real _ _ (by intro h'; linarith), thrC]
  congr 1
  have h1 : (512 + (l.val : ℝ) - 320) ≠ 0 := by intro h'; linarith
  have h2 : 192 + (l.val : ℝ) ≠ 0 := by intro h'; linarith
  field_simp
  ring

/-- The centre table holds 16 on the columns left of 320 and 0 on the others. -/
theorem tableI (m : (ℓ : Loc nD τ sig) → Buf (Elt Ideal) ℓ) (c : Dev nD) (l : Fin 384) :
    (V m c main_c : IVec S1x384 32) (ix2 0 l) = if 128 + l.val < 320 then 16#32 else 0#32 := by
  show StableHlo.after (List.flatten [hostOps0, hostOps0_1, hostOps0_2]) (fun b => m (c, b)) (Proc.devRef .tc main_c) (ix2 0 l) = _
  simp only [List.flatten_cons, List.flatten_nil, List.append_nil, List.cons_append, List.nil_append]
  after_results_simp
  have h : ∀ l : Fin 384, (lit0 (S1x384.rowMajor (ix2 0 l)) : BitVec 32) = if 128 + l.val < 320 then 16#32 else 0#32 := by
    decide +kernel
  exact h l

/-- The row table holds the threshold of each row. -/
theorem tableV (m : (ℓ : Loc nD τ sig) → Buf (Elt Ideal) ℓ) (c : Dev nD) (v : Fin 480) :
    (V m c main_v39 : Vec Ideal S480x1 .f32) (ix2 v 0) = ((thrV v : ℝ) : EReal) := by
  show StableHlo.after (List.flatten [hostOps0, hostOps0_1, hostOps0_2]) (fun b => m (c, b)) (Proc.devRef .tc main_v39) (ix2 v 0) = _
  simp only [List.flatten_cons, List.flatten_nil, List.append_nil, List.cons_append, List.nil_append]
  after_results_simp
  simp only [StableHlo.TRef.ofBuf, StableHlo.TRef.toBuf, cast_eq, id]
  pointwise
  rw [bits_neg_one, bits_240, bits_4, bits_850, bits_2, float_word _ (by omega), ← EReal.coe_sub, ← EReal.coe_mul,
    div_real _ _ (by norm_num), ← EReal.coe_one]
  simp only [EReal.coe_le_coe_iff, thrV]
  split_ifs with h h'
  · rw [div_real _ _ (by intro e; rw [e] at h; norm_num at h)]
  · rw [div_real _ _ (by intro e; rw [e] at h'; norm_num at h')]
  · rfl

end Bev

end
-- ==== Proof.Pieces.lean ====
/-
  What the kernel's run stores at a grid point is, sample by sample, the two blocks of `Sample` at the loaded blocks.
-/
module

public import proofs.«01_k».proof.Proof.Sample
public import proofs.«01_k».proof.Proof.Gen.KernelIdeal.Frame
public import Idealize.ShloMosaic.Lib.WholeRead

@[expose] public section

noncomputable section

namespace Bev

open Idealize.ShloMosaic Idealize.ShloMosaic.TcCoe Idealize.ShloMosaic.Tactic Idealize.SL.Sem
open Cert.KernelIdeal Cert.KernelIdeal.Gen

variable {F : FTy → Type} [FloatOps F]

theorem inbX (s g : Nat) : ∀ a, (![s % 4, 8 * (g % 60), 0] : Fin 3 → Nat) a + S1x8x640.size a ≤ S4x480x640.size a := by
  intro a
  fin_cases a
  · show s % 4 + 1 ≤ 4; omega
  · show 8 * (g % 60) + 8 ≤ 480; omega
  · show 0 + 640 ≤ 640; omega

theorem inbT (g : Nat) : ∀ a, (![8 * (g % 60), 0] : Fin 2 → Nat) a + S8x1.size a ≤ S480x1.size a := by
  intro a
  fin_cases a
  · show 8 * (g % 60) + 8 ≤ 480; omega
  · show 0 + 1 ≤ 1; omega

theorem inbFull (s : Nat) : ∀ a, (![s % 4, 0, 0] : Fin 3 → Nat) a + S1x400x400.size a ≤ S4x400x400.size a := by
  intro a
  fin_cases a
  · show s % 4 + 1 ≤ 4; omega
  · show 0 + 400 ≤ 400; omega
  · show 0 + 400 ≤ 400; omega

theorem inbRegion (s : Nat) : ∀ a, (![s % 4, 192, 128] : Fin 3 → Nat) a + S1x16x128.size a ≤ S4x400x400.size a := by
  intro a
  fin_cases a
  · show s % 4 + 1 ≤ 4; omega
  · show 192 + 16 ≤ 400; omega
  · show 128 + 128 ≤ 400; omega

section
variable (arg1 : Memref sig .tc .vmem S4x480x640 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x384 .i32) (harg4 : arg4.IsWhole)
  (arg5 : Memref sig .tc .vmem S480x1 .f32) (harg5 : arg5.IsWhole) (arg6 : Memref sig .tc .vmem S4x400x400 .f32) (harg6 : arg6.IsWhole)
  (x0 : Vec F S4x480x640 .f32) (x1 : Vec F S1x128 .f32) (x2 : Vec F S1x128 .f32) (x3 : Vec F S1x384 .i32) (x4 : Vec F S480x1 .f32)

/-- The rows of group `g` of sample `s`, as loaded. -/
def ldX (s g : Nat) : Vec F S1x8x640 .f32 :=
  View.readAt (Elt F) arg1.view (Rect.unit (s := S4x480x640) ![s % 4, 8 * (g % 60), 0] S1x8x640.size (inbX s g)).toLoadRect (harg1.unread x0)

/-- The row thresholds of group `g`, as loaded. -/
def ldT (g : Nat) : Vec F S8x1 .f32 :=
  View.readAt (Elt F) arg5.view (Rect.unit (s := S480x1) ![8 * (g % 60), 0] S8x1.size (inbT g)).toLoadRect (harg5.unread x4)

/-- A whole row of thresholds, as loaded. -/
def ldV (arg : Memref sig .tc .vmem S1x128 .f32) (harg : arg.IsWhole) (x : Vec F S1x128 .f32) : Vec F S1x128 .f32 :=
  View.readAt (Elt F) arg.view (Rect.unit (s := S1x128) ![0, 0] S1x128.size Facts₀.inb_S1x128_S1x128_0_0).toLoadRect (harg.unread x)

/-- The centre's table, as loaded. -/
def ldI : Vec F S1x384 .i32 :=
  View.readAt (Elt F) arg4.view (Rect.unit (s := S1x384) ![0, 0] S1x384.size Facts₀.inb_S1x384_S1x384_0_0).toLoadRect (harg4.unread x3)

/-- The counts of sample `s`. -/
def ldC (s : Nat) : Nat → F .f32 :=
  cntF (ldV arg2 harg2 x1) (ldV arg3 harg3 x2) (ldI arg4 harg4 x3) (ldX arg1 harg1 x0 s) (ldT arg5 harg5 x4)

/-- The two stores of sample `s`, the later one first. -/
def stores (c : Nat → F .f32) (s : Nat) : List (View.Piece (Elt F) S4x400x400 .f32) :=
  [⟨Rect.unit (s := S4x400x400) ![s % 4, 192, 128] S1x16x128.size (inbRegion s), region c⟩,
   ⟨Rect.unit (s := S4x400x400) ![s % 4, 0, 0] S1x400x400.size (inbFull s), full c⟩]

set_option maxRecDepth 65536 in
/-- The run's stores are those of the four samples. -/
theorem pieces (c : Dev nD) (i : grid0.Coords) :
    (kernelRun0_A c i arg1 harg1 arg2 harg2 arg3 harg3 arg4 harg4 arg5 harg5 arg6 harg6 x0 x1 x2 x3 x4).1 =
      stores (ldC arg1 harg1 arg2 harg2 arg3 harg3 arg4 harg4 arg5 harg5 x0 x1 x2 x3 x4 3) 3 ++
      (stores (ldC arg1 harg1 arg2 harg2 arg3 harg3 arg4 harg4 arg5 harg5 x0 x1 x2 x3 x4 2) 2 ++
      (stores (ldC arg1 harg1 arg2 harg2 arg3 harg3 arg4 harg4 arg5 harg5 x0 x1 x2 x3 x4 1) 1 ++
      stores (ldC arg1 harg1 arg2 harg2 arg3 harg3 arg4 harg4 arg5 harg5 x0 x1 x2 x3 x4 0) 0)) := by
  sl_kernel_rfl

end

end Bev

end
-- ==== Proof.Block.lean ====
/-
  What one grid point of the kernel leaves in its output block: four normalized histograms.
-/
module

public import proofs.«01_k».proof.Proof.Count
public import proofs.«01_k».proof.Proof.Stats
public import proofs.«01_k».proof.Proof.Pieces
public import Idealize.ShloMosaic.Lib.WritesUnit
public import Idealize.ShloMosaic.Lib.WholeRead

@[expose] public section

noncomputable section

namespace Bev

open Idealize.ShloMosaic Idealize.ShloMosaic.TcCoe Idealize.ShloMosaic.Tactic Idealize.SL.Sem
open Cert.KernelIdeal Cert.KernelIdeal.Gen

/-- After the two stores of sample `s`, sample `s` of the block is the normalized histogram and the others are as before. -/
theorem read_stores (v : View sig .tc .vmem S4x400x400 .f32) (f) (L : List (View.Piece (Elt Ideal) S4x400x400 .f32))
    (n : ℕ → ℕ) (hn : ∑ k ∈ Finset.range 16, n k = 307200) (c : ℕ → Ideal .f32)
    (hc : ∀ k, k < 16 → c k = (((n k : ℕ) : ℝ) : EReal)) (s : ℕ) (hs : s < 4) (b : Fin 4) (i j : Fin 400) :
    v.read (Elt Ideal) (v.writes (Elt Ideal) f (stores c s ++ L)) (ix3 b i j) =
      if b.val = s then ((out n i j : ℝ) : EReal) else v.read (Elt Ideal) (v.writes (Elt Ideal) f L) (ix3 b i j) := by
  have hs' : s % 4 = s := Nat.mod_eq_of_lt hs
  show v.read (Elt Ideal) (v.writes (Elt Ideal) f (⟨Rect.unit (s := S4x400x400) ![s % 4, 192, 128] S1x16x128.size (inbRegion s), region c⟩ ::
    ⟨Rect.unit (s := S4x400x400) ![s % 4, 0, 0] S1x400x400.size (inbFull s), full c⟩ :: L)) (ix3 b i j) = _
  split_ifs with hb
  · by_cases hr : 192 ≤ i.val ∧ i.val < 208 ∧ 128 ≤ j.val ∧ j.val < 256
    · obtain ⟨h1, h2, h3, h4⟩ := hr
      rw [View.read_writes_cons_unit_of_mem v f (inbRegion s) (region c) _ (ix3 b i j)
        (ix3 (0 : Fin 1) (⟨i.val - 192, by omega⟩ : Fin 16) (⟨j.val - 128, by omega⟩ : Fin 128)) rfl
        (by intro a
            match a with
            | ⟨0, _⟩ => show b.val = s % 4 + 0; omega
            | ⟨1, _⟩ => show i.val = 192 + (i.val - 192); omega
            | ⟨2, _⟩ => show j.val = 128 + (j.val - 128); omega)]
      rw [region_apply n hn c hc]
      show ((out n (192 + (i.val - 192)) (128 + (j.val - 128)) : ℝ) : EReal) = _
      rw [show 192 + (i.val - 192) = i.val by omega, show 128 + (j.val - 128) = j.val by omega]
    · have hfar : i.val < 192 ∨ 208 ≤ i.val ∨ j.val < 128 ∨ 256 ≤ j.val := by omega
      have hskip : v.read (Elt Ideal) (v.writes (Elt Ideal) f (⟨Rect.unit (s := S4x400x400) ![s % 4, 192, 128] S1x16x128.size (inbRegion s), region c⟩ ::
          ⟨Rect.unit (s := S4x400x400) ![s % 4, 0, 0] S1x400x400.size (inbFull s), full c⟩ :: L)) (ix3 b i j)
          = v.read (Elt Ideal) (v.writes (Elt Ideal) f (⟨Rect.unit (s := S4x400x400) ![s % 4, 0, 0] S1x400x400.size (inbFull s), full c⟩ :: L)) (ix3 b i j) := by
        by_cases hi : i.val < 192 ∨ 208 ≤ i.val
        · exact View.read_writes_cons_unit_of_not_mem v f (inbRegion s) (region c) _ (ix3 b i j) rfl (1 : Fin 3)
            (by show i.val < 192 ∨ 192 + 16 ≤ i.val; omega)
        · exact View.read_writes_cons_unit_of_not_mem v f (inbRegion s) (region c) _ (ix3 b i j) rfl (2 : Fin 3)
            (by show j.val < 128 ∨ 128 + 128 ≤ j.val; omega)
      rw [hskip, View.read_writes_cons_unit_of_mem v f (inbFull s) (full c) _ (ix3 b i j) (ix3 (0 : Fin 1) i j) rfl
        (by intro a
            match a with
            | ⟨0, _⟩ => show b.val = s % 4 + 0; omega
            | ⟨1, _⟩ => show i.val = 0 + i.val; omega
            | ⟨2, _⟩ => show j.val = 0 + j.val; omega)]
      rw [full_apply n hn c hc, out_far n _ _ hfar]
  · rw [View.read_writes_cons_unit_of_not_mem v f (inbRegion s) (region c) _ (ix3 b i j) rfl (0 : Fin 3)
        (by show b.val < s % 4 ∨ s % 4 + 1 ≤ b.val; omega),
      View.read_writes_cons_unit_of_not_mem v f (inbFull s) (full c) _ (ix3 b i j) rfl (0 : Fin 3)
        (by show b.val < s % 4 ∨ s % 4 + 1 ≤ b.val; omega)]

section
variable (arg1 : Memref sig .tc .vmem S4x480x640 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x384 .i32) (harg4 : arg4.IsWhole)
  (arg5 : Memref sig .tc .vmem S480x1 .f32) (harg5 : arg5.IsWhole) (arg6 : Memref sig .tc .vmem S4x400x400 .f32) (harg6 : arg6.IsWhole)
  (x0 : Vec Ideal S4x480x640 .f32) (x1 : Vec Ideal S1x128 .f32) (x2 : Vec Ideal S1x128 .f32) (x3 : Vec Ideal S1x384 .i32) (x4 : Vec Ideal S480x1 .f32)

/-- A loaded group of rows is those rows of the sample. -/
theorem ldX_apply (s g : ℕ) (hs : s < 4) (hg : g < 60) (r : Fin 8) (u : Fin 640) :
    ldX arg1 harg1 x0 s g (ix3 0 r u) = x0 (ix3 (⟨s, hs⟩ : Fin 4) (⟨8 * g + r.val, by omega⟩ : Fin 480) u) := by
  refine (Memref.IsWhole.readAt_unread harg1 x0 _ _).trans ?_
  congr 1
  funext a
  apply Fin.ext
  match a with
  | ⟨0, _⟩ => show s % 4 + 1 * 0 = s; omega
  | ⟨1, _⟩ => show 8 * (g % 60) + 1 * r.val = 8 * g + r.val; rw [Nat.mod_eq_of_lt hg]; omega
  | ⟨2, _⟩ => show 0 + 1 * u.val = u.val; omega

/-- A loaded group of row thresholds is that part of the table. -/
theorem ldT_apply (g : ℕ) (hg : g < 60) (r : Fin 8) :
    ldT arg5 harg5 x4 g (ix2 r 0) = x4 (ix2 (⟨8 * g + r.val, by omega⟩ : Fin 480) 0) := by
  refine (Memref.IsWhole.readAt_unread harg5 x4 _ _).trans ?_
  congr 1
  funext a
  apply Fin.ext
  match a with
  | ⟨0, _⟩ => show 8 * (g % 60) + 1 * r.val = 8 * g + r.val; rw [Nat.mod_eq_of_lt hg]; omega
  | ⟨1, _⟩ => show 0 + 1 * 0 = 0; omega

/-- A loaded table of column thresholds is the table. -/
theorem ldV_apply (arg : Memref sig .tc .vmem S1x128 .f32) (harg : arg.IsWhole) (x : Vec Ideal S1x128 .f32) (l : Fin 128) :
    ldV arg harg x (ix2 0 l) = x (ix2 0 l) := by
  refine (Memref.IsWhole.readAt_unread harg x _ _).trans ?_
  congr 1
  funext a
  apply Fin.ext
  match a with
  | ⟨0, _⟩ => show 0 + 1 * 0 = 0; omega
  | ⟨1, _⟩ => show 0 + 1 * l.val = l.val; omega

/-- The loaded table of the centre is the table. -/
theorem ldI_apply (l : Fin 384) : ldI arg4 harg4 x3 (ix2 0 l) = x3 (ix2 0 l) := by
  refine (Memref.IsWhole.readAt_unread harg4 x3 _ _).trans ?_
  congr 1
  funext a
  apply Fin.ext
  match a with
  | ⟨0, _⟩ => show 0 + 1 * 0 = 0; omega
  | ⟨1, _⟩ => show 0 + 1 * l.val = l.val; omega

/-- A block of depths as real numbers within range, with the four tables, as a grid point finds them. -/
structure Finds (E : ℕ → ℕ → ℕ → ℝ) : Prop where
  x : ∀ (s : Fin 4) (v : Fin 480) (u : Fin 640), x0 (ix3 s v u) = ((E s v u : ℝ) : EReal)
  a : ∀ l : Fin 128, x1 (ix2 0 l) = ((thrA l : ℝ) : EReal)
  c : ∀ l : Fin 128, x2 (ix2 0 l) = ((thrC l : ℝ) : EReal)
  i : ∀ l : Fin 384, x3 (ix2 0 l) = (if 128 + l.val < 320 then 16#32 else 0#32 : BitVec 32)
  t : ∀ v : Fin 480, x4 (ix2 v 0) = ((thrV v : ℝ) : EReal)
  nonneg : ∀ s < 4, ∀ v < 480, ∀ u < 640, 0 ≤ E s v u
  le : ∀ s < 4, ∀ v < 480, ∀ u < 640, E s v u ≤ 1
  pos : ∀ s < 4, ∀ v < 480, ∀ u < 128, 0 < E s v u

variable {x0 x1 x2 x3 x4}

/-- What a grid point finds gives what the counting of each sample needs. -/
theorem Finds.holds {E : ℕ → ℕ → ℕ → ℝ} (h : Finds x0 x1 x2 x3 x4 E) (s : ℕ) (hs : s < 4) :
    Holds (ldV arg2 harg2 x1) (ldV arg3 harg3 x2) (ldI arg4 harg4 x3) (ldX arg1 harg1 x0 s) (ldT arg5 harg5 x4) (E s) where
  x g hg r u := by rw [ldX_apply arg1 harg1 x0 s g hs hg r u]; exact h.x _ _ _
  t g hg r := by rw [ldT_apply arg5 harg5 x4 g hg r]; exact h.t _
  a l := by rw [ldV_apply]; exact h.a l
  c l := by rw [ldV_apply]; exact h.c l
  i l := by rw [ldI_apply]; exact h.i l
  nonneg := h.nonneg s hs
  le := h.le s hs
  pos := h.pos s hs

/-- One grid point leaves, for each of its four samples, the normalized histogram of the sample. -/
theorem block_apply {E : ℕ → ℕ → ℕ → ℝ} (h : Finds x0 x1 x2 x3 x4 E) (c : Dev nD) (k : grid0.Coords) (b : Fin 4) (i j : Fin 400) :
    out0_A_5 c k arg1 harg1 arg2 harg2 arg3 harg3 arg4 harg4 arg5 harg5 arg6 harg6 x0 x1 x2 x3 x4 (ix3 b i j)
      = ((out (N (E b)) i j : ℝ) : EReal) := by
  show VO0_5.read (Elt Ideal) (VO0_5.writes (Elt Ideal) VO0_5.junk
    (kernelRun0_A c k arg1 harg1 arg2 harg2 arg3 harg3 arg4 harg4 arg5 harg5 arg6 harg6 x0 x1 x2 x3 x4).1) (ix3 b i j) = _
  have H := h.holds arg1 harg1 arg2 harg2 arg3 harg3 arg4 harg4 arg5 harg5
  have hs := fun s hs' => sum_N (H s hs')
  have hc : ∀ s < 4, ∀ m < 16, ldC arg1 harg1 arg2 harg2 arg3 harg3 arg4 harg4 arg5 harg5 x0 x1 x2 x3 x4 s m
      = (((N (E s) m : ℕ) : ℝ) : EReal) := fun s hs' m hm => cntF_eq (H s hs') m hm
  rw [pieces, read_stores _ _ _ (N (E 3)) (hs 3 (by omega)) _ (hc 3 (by omega)) 3 (by omega),
    read_stores _ _ _ (N (E 2)) (hs 2 (by omega)) _ (hc 2 (by omega)) 2 (by omega),
    read_stores _ _ _ (N (E 1)) (hs 1 (by omega)) _ (hc 1 (by omega)) 1 (by omega),
    ← List.append_nil (stores _ 0),
    read_stores _ _ _ (N (E 0)) (hs 0 (by omega)) _ (hc 0 (by omega)) 0 (by omega)]
  split_ifs with h3 h2 h1 h0
  · rw [h3]
  · rw [h2]
  · rw [h1]
  · rw [h0]
  · exfalso; omega

end

end Bev

end
-- ==== Proof.KernelRun.lean ====
/-
  The kernel's run: its result array holds the answer of the launched depths.
-/
module

public import proofs.«01_k».proof.Proof.Answer
public import proofs.«01_k».proof.Proof.Tables
public import proofs.«01_k».proof.Proof.Block
public import proofs.«01_k».proof.Proof.Gen.KernelIdeal.Value

@[expose] public section

noncomputable section

namespace Bev

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (ρ : Dev nD → PrngReg) (c : Dev nD)

/-- Step `t` stages the depths' block `t`, the whole of each table, and the maps' block `t`. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

theorem steps : cfg0.N = 2 := by decide

/-- Sample `s` of step `t` is sample `4t + s` of the whole. -/
def samp (t : Fin cfg0.N) (s : Fin 4) : Fin 8 := ⟨t.val * 4 + s.val, by have := t.isLt; have := steps; omega⟩

theorem emb0 (t : Fin cfg0.N) (s : Fin 4) (v : Fin 480) (u : Fin 640) :
    ((cfg0.win 0).blk t).view.emb (ix3 s v u) = ix3 (samp t s) v u := by
  obtain ⟨e0, e1, e2⟩ := index0 t
  funext a; apply Fin.ext
  match a with
  | ⟨0, _⟩ => show win0_0.index t (0 : Fin 3) * 4 + 1 * s.val = t.val * 4 + s.val; omega
  | ⟨1, _⟩ => show win0_0.index t (1 : Fin 3) * 480 + 1 * v.val = v.val; omega
  | ⟨2, _⟩ => show win0_0.index t (2 : Fin 3) * 640 + 1 * u.val = u.val; omega

theorem emb1 (t : Fin cfg0.N) (l : Fin 128) : ((cfg0.win 1).blk t).view.emb (ix2 (0 : Fin 1) l) = ix2 (0 : Fin 1) l := by
  obtain ⟨e0, e1⟩ := index1 t
  funext a; apply Fin.ext
  match a with
  | ⟨0, _⟩ => show win0_1.index t (0 : Fin 2) * 1 + 1 * 0 = 0; omega
  | ⟨1, _⟩ => show win0_1.index t (1 : Fin 2) * 128 + 1 * l.val = l.val; omega

theorem emb2 (t : Fin cfg0.N) (l : Fin 128) : ((cfg0.win 2).blk t).view.emb (ix2 (0 : Fin 1) l) = ix2 (0 : Fin 1) l := by
  obtain ⟨e0, e1⟩ := index2 t
  funext a; apply Fin.ext
  match a with
  | ⟨0, _⟩ => show win0_2.index t (0 : Fin 2) * 1 + 1 * 0 = 0; omega
  | ⟨1, _⟩ => show win0_2.index t (1 : Fin 2) * 128 + 1 * l.val = l.val; omega

theorem emb3 (t : Fin cfg0.N) (l : Fin 384) : ((cfg0.win 3).blk t).view.emb (ix2 (0 : Fin 1) l) = ix2 (0 : Fin 1) l := by
  obtain ⟨e0, e1⟩ := index3 t
  funext a; apply Fin.ext
  match a with
  | ⟨0, _⟩ => show win0_3.index t (0 : Fin 2) * 1 + 1 * 0 = 0; omega
  | ⟨1, _⟩ => show win0_3.index t (1 : Fin 2) * 384 + 1 * l.val = l.val; omega

theorem emb4 (t : Fin cfg0.N) (v : Fin 480) : ((cfg0.win 4).blk t).view.emb (ix2 v (0 : Fin 1)) = ix2 v (0 : Fin 1) := by
  obtain ⟨e0, e1⟩ := index4 t
  funext a; apply Fin.ext
  match a with
  | ⟨0, _⟩ => show win0_4.index t (0 : Fin 2) * 480 + 1 * v.val = v.val; omega
  | ⟨1, _⟩ => show win0_4.index t (1 : Fin 2) * 1 + 1 * 0 = 0; omega

theorem emb5 (t : Fin cfg0.N) (s : Fin 4) (i j : Fin 400) :
    ((cfg0.win 5).blk t).view.emb (ix3 s i j) = ix3 (samp t s) i j := by
  obtain ⟨e0, e1, e2⟩ := index5 t
  funext a; apply Fin.ext
  match a with
  | ⟨0, _⟩ => show win0_5.index t (0 : Fin 3) * 4 + 1 * s.val = t.val * 4 + s.val; omega
  | ⟨1, _⟩ => show win0_5.index t (1 : Fin 3) * 400 + 1 * i.val = i.val; omega
  | ⟨2, _⟩ => show win0_5.index t (2 : Fin 3) * 400 + 1 * j.val = j.val; omega

/-- The launched depths of a device. -/
abbrev launched : Depths.Idx → EReal := m ((c : Thread nD τ).loc main_arg0)

/-- At step `t` the kernel finds four samples of depths in range and the tables. -/
theorem finds (h : InRange (launched m c)) (t : Fin cfg0.N) :
    Finds (iblk m c 0 t) (iblk m c 1 t) (iblk m c 2 t) (iblk m c 3 t) (iblk m c 4 t)
      (fun s => depth (launched m c) (t.val * 4 + s)) where
  x s v u := by
    show V m c main_arg0 (((cfg0.win 0).blk t).view.emb (ix3 s v u)) = _
    rw [emb0, V_main_arg0]
    exact h.coe (samp t s) v u
  a l := by
    show V m c main_v9 (((cfg0.win 1).blk t).view.emb (ix2 (0 : Fin 1) l)) = _
    rw [emb1]; exact tableA m c l
  c l := by
    show V m c main_v21 (((cfg0.win 2).blk t).view.emb (ix2 (0 : Fin 1) l)) = _
    rw [emb2]; exact tableC m c l
  i l := by
    show V m c main_c (((cfg0.win 3).blk t).view.emb (ix2 (0 : Fin 1) l)) = _
    rw [emb3]; exact tableI m c l
  t v := by
    show V m c main_v39 (((cfg0.win 4).blk t).view.emb (ix2 v (0 : Fin 1))) = _
    rw [emb4]; exact tableV m c v
  nonneg s hs v hv u hu := h.depth_nonneg _ _ _ (by have := t.isLt; have := steps; omega) hv hu
  le s hs v hv u hu := h.depth_le _ _ _ (by have := t.isLt; have := steps; omega) hv hu
  pos s hs v hv u hu := h.depth_pos _ _ _ (by have := t.isLt; have := steps; omega) hv hu

/-- What step `t` writes back is its block of the answer. -/
theorem flushed_eq (h : InRange (launched m c)) (t : Fin cfg0.N) :
    (dats m 0 c).flushed 5 t = ((cfg0.win 5).blk t).view.read (Elt Ideal) (answer (launched m c)) := by
  rw [flushed5_A]
  funext j
  obtain ⟨s, i, k, rfl⟩ : ∃ (s : Fin 4) (i k : Fin 400), j = ix3 s i k := ⟨_, _, _, eq_ix3 (n0 := 4) (n1 := 400) (n2 := 400) j⟩
  show out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) (iblk m c 4 t) (ix3 s i k)
      = answer (launched m c) (((cfg0.win 5).blk t).view.emb (ix3 s i k))
  rw [emb5, block_apply _ _ _ _ _ _ _ _ _ _ _ _ (finds m c h t)]
  rfl

/-- Every entry of the maps is in some step's block. -/
theorem covered (i : Maps.Idx) : ∃ t : Fin cfg0.N, (cfg0.win 5).flush t = true ∧ i ∈ ((cfg0.win 5).blk t).view.set := by
  obtain ⟨b, x, y, rfl⟩ : ∃ (b : Fin 8) (x y : Fin 400), i = ix3 b x y := ⟨_, _, _, eq_ix3 (n0 := 8) (n1 := 400) (n2 := 400) i⟩
  have hb : b.val / 4 < cfg0.N := by have := steps; omega
  refine ⟨⟨b.val / 4, hb⟩, flush0_5 _, ?_⟩
  have h := ((cfg0.win 5).blk (⟨b.val / 4, hb⟩ : Fin cfg0.N)).view.emb_mem_set (ix3 (⟨b.val % 4, by omega⟩ : Fin 4) x y)
  rw [emb5] at h
  have e : samp (⟨b.val / 4, hb⟩ : Fin cfg0.N) (⟨b.val % 4, by omega⟩ : Fin 4) = b :=
    Fin.ext (by show b.val / 4 * 4 + b.val % 4 = b.val; omega)
  rwa [e] at h

/-- From depths in range the kernel ends with the answer as its result and the depths unchanged. -/
theorem kernel_run (h : ∀ c, InRange (launched m c)) :
    θ_run defs (onTc (τ := τ) (main (F := Ideal))) ⟨m, fun _ => 0, ρ⟩ fun r => ∀ c : Dev nD,
      r.2.mem ((c : Thread nD τ).loc main_v40) = answer (launched m c)
      ∧ r.2.mem ((c : Thread nD τ).loc main_arg0) = m ((c : Thread nD τ).loc main_arg0) :=
  (θ_run defs _ _).mono (fun r h' c => ⟨(h' c).1.trans
    ((dats m 0 c).arrAt_eq_of_cover 5 (answer (launched m c)) (fun t _ => flushed_eq m c (h c) t) covered), (h' c).2⟩) (run_blocks m ρ)

end Bev

end
-- ==== Proof.RefTerm.lean ====
/-
  The reference's result, part by part: positions, cells, histogram, normalization.
-/
module

public import proofs.«01_k».proof.Proof.Tables
public import proofs.«01_k».proof.Proof.Answer
public import proofs.«01_k».proof.Proof.Gen.ReferenceIdeal.Run
public import Idealize.ShloMosaic.Lib.Pointwise

@[expose] public section

noncomputable section

namespace Bev.Ref

open Idealize.ShloMosaic Idealize.ShloMosaic.TcCoe Idealize.SL.Sem
open Cert.ReferenceIdeal Cert.ReferenceIdeal.Facts₀ Cert.ReferenceIdeal.Facts

/-- The positions along the first axis of the map. -/
def along (X : FVec Ideal S8x480x640 .f32) : FVec Ideal S8x480x640 .f32 :=
  Host.divf (mulf (broadcastInDim S8x480x640 ![0, 1, 2] bcast_S1x1x640_S8x480x640_0_1_2
    (subf (broadcastInDim S1x1x640 ![2] bcast_S640_S1x1x640_2 (sitofp .f32 (iotaInDim S640 32 0)))
      (broadcastInDim S1x1x640 ![] bcast_S_S1x1x640 (constant S_ .f32 0x43A00000#32)))) X)
    (broadcastInDim S8x480x640 ![] bcast_S_S8x480x640 (constant S_ .f32 0x447A0000#32))

/-- The positions along the second axis of the map. -/
def across (X : FVec Ideal S8x480x640 .f32) : FVec Ideal S8x480x640 .f32 :=
  Host.divf (mulf (broadcastInDim S8x480x640 ![0, 1, 2] bcast_S1x480x1_S8x480x640_0_1_2
    (subf (broadcastInDim S1x480x1 ![1] bcast_S480_S1x480x1_1 (sitofp .f32 (iotaInDim S480 32 0)))
      (broadcastInDim S1x480x1 ![] bcast_S_S1x480x1 (constant S_ .f32 0x43700000#32)))) X)
    (broadcastInDim S8x480x640 ![] bcast_S_S8x480x640 (constant S_ .f32 0x44548000#32))

/-- A sample's pixels in one row. -/
def flat (Z : FVec Ideal S8x480x640 .f32) : FVec Ideal S8x307200 .f32 :=
  shapeCast S8x307200 Z shapeCasts_S8x480x640_S8x307200

/-- The cell number of a position, kept within the map. -/
def clipped (P : FVec Ideal S8x307200 .f32) : IVec S8x307200 32 :=
  minsi (broadcastInDim S8x307200 ![] bcast_S_S8x307200 (id (constantI S_ 32 399#32)))
    (maxsi (broadcastInDim S8x307200 ![] bcast_S_S8x307200 (id (constantI S_ 32 0#32)))
      (fptosi 32 (Host.floor (Host.divf (subf P (broadcastInDim S8x307200 ![] bcast_S_S8x307200 (constant S_ .f32 0xC2480000#32)))
        (broadcastInDim S8x307200 ![] bcast_S_S8x307200 (constant S_ .f32 0x3E800000#32))))))

/-- The cell number as an index. -/
def index (w : IVec S8x307200 32) : IVec S8x307200 32 :=
  select (cmpi .slt w (broadcastInDim S8x307200 ![] bcast_S_S8x307200 (constantI S_ 32 0#32)))
    (addi w (broadcastInDim S8x307200 ![] bcast_S_S8x307200 (constantI S_ 32 400#32))) w

/-- The sample number as an index. -/
def sample : IVec S8x307200 32 :=
  broadcastInDim S8x307200 ![0, 1] bcast_S8x1_S8x307200_0_1
    (select (cmpi .slt (broadcastInDim S8x1 ![0] bcast_S8_S8x1_0 (iotaInDim S8 32 0)) (broadcastInDim S8x1 ![] bcast_S_S8x1 (constantI S_ 32 0#32)))
      (addi (broadcastInDim S8x1 ![0] bcast_S8_S8x1_0 (iotaInDim S8 32 0)) (broadcastInDim S8x1 ![] bcast_S_S8x1 (constantI S_ 32 8#32)))
      (broadcastInDim S8x1 ![0] bcast_S8_S8x1_0 (iotaInDim S8 32 0)))

/-- Whether a position lies on the map. -/
def onMap (P Q : FVec Ideal S8x307200 .f32) : IVec S8x307200 1 :=
  andi (andi (andi (cmpf .oge P (broadcastInDim S8x307200 ![] bcast_S_S8x307200 (constant S_ .f32 0xC2480000#32)))
    (cmpf .olt P (broadcastInDim S8x307200 ![] bcast_S_S8x307200 (constant S_ .f32 0x42480000#32))))
    (cmpf .oge Q (broadcastInDim S8x307200 ![] bcast_S_S8x307200 (constant S_ .f32 0xC2480000#32))))
    (cmpf .olt Q (broadcastInDim S8x307200 ![] bcast_S_S8x307200 (constant S_ .f32 0x42480000#32)))

/-- An index column. -/
def column (w : IVec S8x307200 32) : IVec S8x307200x1 32 :=
  broadcastInDim S8x307200x1 ![0, 1] bcast_S8x307200_S8x307200x1_0_1 w

/-- Where each pixel is counted. -/
def places (w z : IVec S8x307200 32) : IVec S8x307200x3 32 :=
  concatenate S8x307200x3 2 [⟨S8x307200x1, column sample⟩, ⟨S8x307200x1, column w⟩, ⟨S8x307200x1, column z⟩]
    concatenates_S8x307200x1_S8x307200x1_S8x307200x1_S8x307200x3_d2

/-- The histograms. -/
def hist (P Q : FVec Ideal S8x307200 .f32) : FVec Ideal S8x400x400 .f32 :=
  Host.scatterAdd (F := Ideal) scatter_S8x400x400_S8x307200x3_S8x307200_n_012_012_2
    (broadcastInDim S8x400x400 ![] bcast_S_S8x400x400 (constant S_ .f32 0x00000000#32))
    (places (index (clipped P)) (index (clipped Q))) (uitofp .f32 (onMap P Q))

/-- The sums of a map over its cells. -/
def total (H : FVec Ideal S8x400x400 .f32) : FVec Ideal S8 .f32 :=
  Host.reduceAdd H (constant S_ .f32 0x00000000#32) reducesTo_S8x400x400_S8_d1_2 h_S_

/-- A map less its mean. -/
def centred (H : FVec Ideal S8x400x400 .f32) : FVec Ideal S8x400x400 .f32 :=
  subf H (broadcastInDim S8x400x400 ![0, 1, 2] bcast_S8x1x1_S8x400x400_0_1_2
    (Host.divf (broadcastInDim S8x1x1 ![0] bcast_S8_S8x1x1_0 (total H)) (broadcastInDim S8x1x1 ![] bcast_S_S8x1x1 (constant S_ .f32 0x481C4000#32))))

/-- The number the squares are divided by. -/
def free : FVec Ideal S_ .f32 := subf (constant S_ .f32 0x481C4000#32) (sitofp .f32 (constantI S_ 32 1#32))

/-- The standard deviations. -/
def spread (H : FVec Ideal S8x400x400 .f32) : FVec Ideal S8x1x1 .f32 :=
  Host.sqrt (select (broadcastInDim S8x1x1 ![] bcast_S_S8x1x1 (cmpf .ogt free (constant S_ .f32 0x00000000#32)))
    (Host.divf (broadcastInDim S8x1x1 ![0] bcast_S8_S8x1x1_0 (total (mulf (centred H) (centred H)))) (broadcastInDim S8x1x1 ![] bcast_S_S8x1x1 free))
    (broadcastInDim S8x1x1 ![] bcast_S_S8x1x1 (id (constant S_ .f32 0x7FC00000#32))))

/-- The normalized maps. -/
def normal (H : FVec Ideal S8x400x400 .f32) : FVec Ideal S8x400x400 .f32 :=
  Host.divf (centred H) (broadcastInDim S8x400x400 ![0, 1, 2] bcast_S8x1x1_S8x400x400_0_1_2 (spread H))

/-- The reference's result is the normalized histograms of the launched depths. -/
theorem result_eq (m : (ℓ : Loc nD τ sig) → Buf (Elt Ideal) ℓ) (c : Dev nD) :
    Cert.ReferenceIdeal.Value.res_main_v76 m c
      = normal (hist (flat (along (m ((c : Thread nD τ).loc main_arg0)))) (flat (across (m ((c : Thread nD τ).loc main_arg0))))) := rfl

end Bev.Ref

end
-- ==== Proof.RefCells.lean ====
/-
  The reference's cells: each pixel of depths in range is on the map, in the cell that the counts name.
-/
module

public import proofs.«01_k».proof.Proof.RefTerm

@[expose] public section

noncomputable section

namespace Bev.Ref

open Idealize.ShloMosaic Idealize.ShloMosaic.TcCoe Idealize.SL.Sem
open Cert.ReferenceIdeal

theorem bits_neg_50 : Ideal.ofBits .f32 3259498496#32 = ((-50 : ℝ) : EReal) := by
  simp [Ideal.ofBits, Ideal.ieee]; rw [← EReal.coe_mul]; norm_num

theorem bits_50 : Ideal.ofBits .f32 1112014848#32 = ((50 : ℝ) : EReal) := by
  simp [Ideal.ofBits, Ideal.ieee]; rw [← EReal.coe_mul]; norm_num

theorem bits_quarter : Ideal.ofBits .f32 1048576000#32 = ((1 / 4 : ℝ) : EReal) := by
  simp [Ideal.ofBits, Ideal.ieee]; rw [← EReal.coe_mul]; norm_num

/-- The position along the first axis of a pixel of column `u` at depth `d`. -/
def posI (u : ℕ) (d : ℝ) : ℝ := ((u : ℝ) - 320) * d / 1000

/-- The position along the second axis of a pixel of row `v` at depth `d`. -/
def posJ (v : ℕ) (d : ℝ) : ℝ := ((v : ℝ) - 240) * d / 850

theorem along_apply (X : FVec Ideal S8x480x640 .f32) (b : Fin 8) (v : Fin 480) (u : Fin 640) (d : ℝ)
    (h : X (ix3 b v u) = (d : EReal)) : along X (ix3 b v u) = ((posI u d : ℝ) : EReal) := by
  unfold along
  pointwise
  rw [h, bits_320, bits_1000, float_word _ (by omega), ← EReal.coe_sub, ← EReal.coe_mul, div_real _ _ (by norm_num)]
  rfl

theorem across_apply (X : FVec Ideal S8x480x640 .f32) (b : Fin 8) (v : Fin 480) (u : Fin 640) (d : ℝ)
    (h : X (ix3 b v u) = (d : EReal)) : across X (ix3 b v u) = ((posJ v d : ℝ) : EReal) := by
  unfold across
  pointwise
  rw [h, bits_240, bits_850, float_word _ (by omega), ← EReal.coe_sub, ← EReal.coe_mul, div_real _ _ (by norm_num)]
  rfl

/-- Pixel `p` of the row of a sample is pixel `(p / 640, p % 640)`. -/
theorem flat_apply (Z : FVec Ideal S8x480x640 .f32) (b : Fin 8) (p : Fin 307200) :
    flat Z (ix2 b p) = Z (ix3 b (⟨p.val / 640, by omega⟩ : Fin 480) (⟨p.val % 640, by omega⟩ : Fin 640)) := by
  unfold flat
  pointwise

/-- A small number as a word, clipped to 0 … 399, is itself. -/
theorem clip_word (n : ℕ) (hn : n < 400) :
    IntOp.minsi (399#32) (IntOp.maxsi (0#32) (BitVec.ofNat 32 n)) = BitVec.ofNat 32 n := by
  have e : ∀ k : Fin 400, IntOp.minsi (399#32) (IntOp.maxsi (0#32) (BitVec.ofNat 32 k.val)) = BitVec.ofNat 32 k.val := by decide +kernel
  exact e ⟨n, hn⟩

/-- A small number as a word is its own index. -/
theorem index_word (n : ℕ) (hn : n < 400) (k : BitVec 32) :
    Scalar.select (IntOp.cmpi CmpIPredicate.slt (BitVec.ofNat 32 n) 0#32) k (BitVec.ofNat 32 n) = BitVec.ofNat 32 n := by
  have e : ∀ k : Fin 400, IntOp.cmpi CmpIPredicate.slt (BitVec.ofNat 32 k.val) 0#32 = 0#1 := by decide +kernel
  rw [e ⟨n, hn⟩]
  rfl

/-- A position whose cell is `n` has that number, on the map. -/
theorem clipped_apply (P : FVec Ideal S8x307200 .f32) (b : Fin 8) (p : Fin 307200) (r : ℝ) (n : ℕ) (hn : n < 400)
    (h : P (ix2 b p) = (r : EReal)) (hr : ⌊(r - -50) / (1 / 4)⌋ = (n : ℤ)) : clipped P (ix2 b p) = BitVec.ofNat 32 n := by
  unfold clipped
  pointwise
  rw [h, bits_neg_50, bits_quarter, ← EReal.coe_sub, div_real _ _ (by norm_num), Ideal.liftRound_coe, hr]
  have e : (FloatOps.fptosi (F := Ideal) (φ := .f32) 32 ((((n : ℤ) : ℝ) : EReal) : Ideal .f32) : BitVec 32) = BitVec.ofNat 32 n := by
    show BitVec.ofInt 32 (Ideal.toIntClamped _ _ ((((n : ℤ) : ℝ) : EReal))) = _
    rw [Ideal.toIntClamped_coe, if_pos (by positivity), Int.floor_intCast, max_eq_right, min_eq_right]
    · exact BitVec.ofInt_natCast ..
    · norm_num; omega
    · norm_num
  rw [e]
  exact clip_word n hn

theorem index_apply (w : IVec S8x307200 32) (b : Fin 8) (p : Fin 307200) (n : ℕ) (hn : n < 400) (h : w (ix2 b p) = BitVec.ofNat 32 n) :
    index w (ix2 b p) = BitVec.ofNat 32 n := by
  unfold index
  pointwise
  rw [h]
  exact index_word n hn _

theorem sample_apply (b : Fin 8) (p : Fin 307200) : sample (ix2 b p) = BitVec.ofNat 32 b.val := by
  unfold sample
  pointwise
  exact index_word b.val (by omega) _

theorem onMap_apply (P Q : FVec Ideal S8x307200 .f32) (b : Fin 8) (p : Fin 307200) (r s : ℝ) (hP : P (ix2 b p) = (r : EReal))
    (hQ : Q (ix2 b p) = (s : EReal)) (hr : -50 ≤ r ∧ r < 50) (hs : -50 ≤ s ∧ s < 50) : onMap P Q (ix2 b p) = 1#1 := by
  unfold onMap
  pointwise
  rw [hP, hQ, bits_neg_50, bits_50]
  simp only [EReal.coe_le_coe_iff, EReal.coe_lt_coe_iff, hr.1, hr.2, hs.1, hs.2]
  rfl

theorem places_apply (w z : IVec S8x307200 32) (b : Fin 8) (p : Fin 307200) :
    places w z (ix3 b p 0) = BitVec.ofNat 32 b.val ∧ places w z (ix3 b p 1) = w (ix2 b p) ∧ places w z (ix3 b p 2) = z (ix2 b p) := by
  refine ⟨?_, ?_, ?_⟩
  · unfold places
    pointwise
    unfold column
    pointwise
    exact sample_apply b p
  · unfold places
    pointwise
    unfold column
    pointwise
  · unfold places
    pointwise
    unfold column
    pointwise

section
variable {d : ℝ} (h0 : 0 ≤ d) (h1 : d ≤ 1)
include h0 h1

theorem posI_bounds {u : ℕ} (hu : u < 640) : -50 ≤ posI u d ∧ posI u d < 50 := by
  have hu' : (u : ℝ) ≤ 639 := by exact_mod_cast Nat.le_of_lt_succ hu
  have hu0 : (0 : ℝ) ≤ u := Nat.cast_nonneg u
  unfold posI
  constructor <;> nlinarith

theorem posJ_bounds {v : ℕ} (hv : v < 480) : -50 ≤ posJ v d ∧ posJ v d < 50 := by
  have hv' : (v : ℝ) ≤ 479 := by exact_mod_cast Nat.le_of_lt_succ hv
  have hv0 : (0 : ℝ) ≤ v := Nat.cast_nonneg v
  unfold posJ
  constructor <;> nlinarith

theorem posI_cell {u : ℕ} (hu : u < 640) : ⌊(posI u d - -50) / (1 / 4)⌋ = ((198 + ci u d : ℕ) : ℤ) := by
  have e : (posI u d - -50) / (1 / 4) = ((u : ℝ) - 320) * d / 250 + (200 : ℕ) := by unfold posI; push_cast; ring
  rw [e, Int.floor_add_natCast, floor_ci hu h0 h1]
  push_cast; ring

theorem posJ_cell {v : ℕ} (hv : v < 480) : ⌊(posJ v d - -50) / (1 / 4)⌋ = ((198 + cj v d : ℕ) : ℤ) := by
  have e : (posJ v d - -50) / (1 / 4) = ((v : ℝ) - 240) * d * 4 / 850 + (200 : ℕ) := by unfold posJ; push_cast; ring
  rw [e, Int.floor_add_natCast, floor_cj hv h0 h1]
  push_cast; ring

end

end Bev.Ref

end
-- ==== Proof.RefHist.lean ====
/-
  The reference's histogram: each sample's map holds, at each of the sixteen cells, the number of its pixels there.
-/
module

public import proofs.«01_k».proof.Proof.RefCells

@[expose] public section

noncomputable section

namespace Bev.Ref

open Idealize.ShloMosaic Idealize.ShloMosaic.TcCoe Idealize.SL.Sem
open Cert.ReferenceIdeal

/-- A pixel's place is read off its three index columns. -/
theorem start_eq (idx : IVec S8x307200x3 32) (b : Fin 8) (p : Fin 307200) (a : Fin 3) :
    scatter_S8x400x400_S8x307200x3_S8x307200_n_012_012_2.start (ix2 b p) idx a = (idx (ix3 b p a)).toInt := by
  fin_cases a
  all_goals
    refine (dif_pos (by decide)).trans ?_
    congr 2
    funext x
    match x with
    | ⟨0, _⟩ => rfl
    | ⟨1, _⟩ => rfl
    | ⟨2, _⟩ => rfl

/-- No part of a place comes from a window. -/
theorem window_eq (b : Fin 8) (p : Fin 307200) (a : Fin 3) :
    scatter_S8x400x400_S8x307200x3_S8x307200_n_012_012_2.window (ix2 b p) a = 0 := by
  fin_cases a <;> exact dif_neg (by decide)

theorem toInt_small (n : ℕ) (hn : n < 400) : (BitVec.ofNat 32 n).toInt = (n : ℤ) := by
  rw [BitVec.toInt_eq_toNat_of_lt] <;> rw [BitVec.toNat_ofNat] <;> omega

/-- A pixel of sample `b` whose index columns name row `i` and column `j` lands there. -/
theorem lands (idx : IVec S8x307200x3 32) (b : Fin 8) (p : Fin 307200) (i j : Fin 400) (hb : idx (ix3 b p 0) = BitVec.ofNat 32 b.val)
    (hi : idx (ix3 b p 1) = BitVec.ofNat 32 i.val) (hj : idx (ix3 b p 2) = BitVec.ofNat 32 j.val) :
    scatter_S8x400x400_S8x307200x3_S8x307200_n_012_012_2.resultIdx? (ix2 b p) idx = some (ix3 b i j) := by
  have s0 := start_eq idx b p 0
  have s1 := start_eq idx b p 1
  have s2 := start_eq idx b p 2
  rw [hb, toInt_small _ (by omega)] at s0
  rw [hi, toInt_small _ (by omega)] at s1
  rw [hj, toInt_small _ (by omega)] at s2
  have w := window_eq b p
  have hb' := b.isLt
  have hi' := i.isLt
  have hj' := j.isLt
  unfold ScatterDims.resultIdx?
  rw [dif_pos]
  · congr 1
    funext a
    apply Fin.ext
    match a with
    | ⟨0, _⟩ =>
      show (scatter_S8x400x400_S8x307200x3_S8x307200_n_012_012_2.start (ix2 b p) idx (0 : Fin 3)
        + (scatter_S8x400x400_S8x307200x3_S8x307200_n_012_012_2.window (ix2 b p) (0 : Fin 3) : ℕ)).toNat = b.val
      rw [s0, w]; omega
    | ⟨1, _⟩ =>
      show (scatter_S8x400x400_S8x307200x3_S8x307200_n_012_012_2.start (ix2 b p) idx (1 : Fin 3)
        + (scatter_S8x400x400_S8x307200x3_S8x307200_n_012_012_2.window (ix2 b p) (1 : Fin 3) : ℕ)).toNat = i.val
      rw [s1, w]; omega
    | ⟨2, _⟩ =>
      show (scatter_S8x400x400_S8x307200x3_S8x307200_n_012_012_2.start (ix2 b p) idx (2 : Fin 3)
        + (scatter_S8x400x400_S8x307200x3_S8x307200_n_012_012_2.window (ix2 b p) (2 : Fin 3) : ℕ)).toNat = j.val
      rw [s2, w]; omega
  · intro a
    match a with
    | ⟨0, _⟩ =>
      show 0 ≤ scatter_S8x400x400_S8x307200x3_S8x307200_n_012_012_2.start (ix2 b p) idx (0 : Fin 3)
          + (scatter_S8x400x400_S8x307200x3_S8x307200_n_012_012_2.window (ix2 b p) (0 : Fin 3) : ℕ)
        ∧ scatter_S8x400x400_S8x307200x3_S8x307200_n_012_012_2.start (ix2 b p) idx (0 : Fin 3)
          + (scatter_S8x400x400_S8x307200x3_S8x307200_n_012_012_2.window (ix2 b p) (0 : Fin 3) : ℕ) < (8 : ℕ)
      rw [s0, w]; omega
    | ⟨1, _⟩ =>
      show 0 ≤ scatter_S8x400x400_S8x307200x3_S8x307200_n_012_012_2.start (ix2 b p) idx (1 : Fin 3)
          + (scatter_S8x400x400_S8x307200x3_S8x307200_n_012_012_2.window (ix2 b p) (1 : Fin 3) : ℕ)
        ∧ scatter_S8x400x400_S8x307200x3_S8x307200_n_012_012_2.start (ix2 b p) idx (1 : Fin 3)
          + (scatter_S8x400x400_S8x307200x3_S8x307200_n_012_012_2.window (ix2 b p) (1 : Fin 3) : ℕ) < (400 : ℕ)
      rw [s1, w]; omega
    | ⟨2, _⟩ =>
      show 0 ≤ scatter_S8x400x400_S8x307200x3_S8x307200_n_012_012_2.start (ix2 b p) idx (2 : Fin 3)
          + (scatter_S8x400x400_S8x307200x3_S8x307200_n_012_012_2.window (ix2 b p) (2 : Fin 3) : ℕ)
        ∧ scatter_S8x400x400_S8x307200x3_S8x307200_n_012_012_2.start (ix2 b p) idx (2 : Fin 3)
          + (scatter_S8x400x400_S8x307200x3_S8x307200_n_012_012_2.window (ix2 b p) (2 : Fin 3) : ℕ) < (400 : ℕ)
      rw [s2, w]; omega

/-- Two places of one map are equal when rows and columns are. -/
theorem place_inj (b : Fin 8) (i i' j j' : Fin 400) : ix3 b i j = ix3 b i' j' ↔ i.val = i'.val ∧ j.val = j'.val := by
  constructor
  · intro h
    have hi : i = i' := congrFun h (1 : Fin 3)
    have hj : j = j' := congrFun h (2 : Fin 3)
    exact ⟨congrArg Fin.val hi, congrArg Fin.val hj⟩
  · rintro ⟨hi, hj⟩
    rw [Fin.ext hi, Fin.ext hj]

/-- A sum over `m` runs of `n` is the sum of the runs' sums. -/
theorem sum_runs (f : ℕ → ℕ) (m n : ℕ) :
    ∑ p ∈ Finset.range (m * n), f p = ∑ v ∈ Finset.range m, ∑ u ∈ Finset.range n, f (v * n + u) := by
  induction m with
  | zero => simp
  | succ m ih => rw [Nat.succ_mul, Finset.sum_range_add, Finset.sum_range_succ, ih]

/-- A sum over the pixels in one row is a sum over the rows and columns. -/
theorem sum_pixels (f : ℕ → ℕ → ℕ) :
    ∑ p : Fin 307200, f (p.val / 640) (p.val % 640) = ∑ v ∈ Finset.range 480, ∑ u ∈ Finset.range 640, f v u := by
  rw [← Finset.sum_range (fun p => f (p / 640) (p % 640))]
  refine (congrArg (fun n => ∑ p ∈ Finset.range n, f (p / 640) (p % 640)) (by norm_num : 307200 = 480 * 640)).trans ?_
  rw [sum_runs]
  refine Finset.sum_congr rfl fun v _ => Finset.sum_congr rfl fun u hu => ?_
  have hu' := Finset.mem_range.1 hu
  rw [show (v * 640 + u) / 640 = v by omega, show (v * 640 + u) % 640 = u by omega]

/-- The pixels whose cell is row `i` and column `j` number the grid's count there. -/
theorem grid_sum (E : ℕ → ℕ → ℝ) (h0 : ∀ v < 480, ∀ u < 640, 0 ≤ E v u) (h1 : ∀ v < 480, ∀ u < 640, E v u ≤ 1) (i j : ℕ) :
    (∑ v ∈ Finset.range 480, ∑ u ∈ Finset.range 640, if i = 198 + ci u (E v u) ∧ j = 198 + cj v (E v u) then 1 else 0) = grid (N E) i j := by
  have bound : ∀ v ∈ Finset.range 480, ∀ u ∈ Finset.range 640, ci u (E v u) < 4 ∧ cj v (E v u) < 4 := fun v hv u hu =>
    have hv' := Finset.mem_range.1 hv
    have hu' := Finset.mem_range.1 hu
    ⟨ci_lt hu' (h0 v hv' u hu') (h1 v hv' u hu'), cj_lt hv' (h0 v hv' u hu') (h1 v hv' u hu')⟩
  unfold grid
  split_ifs with h
  · unfold N hits
    refine Finset.sum_congr rfl fun v hv => Finset.sum_congr rfl fun u hu => if_congr ?_ rfl rfl
    have := bound v hv u hu
    unfold cell
    omega
  · refine Finset.sum_eq_zero fun v hv => Finset.sum_eq_zero fun u hu => if_neg ?_
    have := bound v hv u hu
    omega

/-- As many ones as a set has members add up to their number. -/
theorem sum_ones {α : Type} (s : Finset α) : ∑ _j ∈ s, ((1 : ℝ) : EReal) = (((s.card : ℕ) : ℝ) : EReal) := by
  classical
  induction s using Finset.induction with
  | empty => simp
  | insert a s ha ih => rw [Finset.sum_insert ha, ih, Finset.card_insert_of_notMem ha, ← EReal.coe_add]; congr 1; push_cast; ring

section
variable (P Q : FVec Ideal S8x307200 .f32) (D : ℕ → ℕ → ℕ → ℝ)
  (hP : ∀ (b : Fin 8) (p : Fin 307200), P (ix2 b p) = ((posI (p.val % 640) (D b (p.val / 640) (p.val % 640)) : ℝ) : EReal))
  (hQ : ∀ (b : Fin 8) (p : Fin 307200), Q (ix2 b p) = ((posJ (p.val / 640) (D b (p.val / 640) (p.val % 640)) : ℝ) : EReal))
  (h0 : ∀ b < 8, ∀ v < 480, ∀ u < 640, 0 ≤ D b v u) (h1 : ∀ b < 8, ∀ v < 480, ∀ u < 640, D b v u ≤ 1)
include hP hQ h0 h1

/-- Where pixel `p` of sample `b` is counted. -/
theorem pixel_lands (b : Fin 8) (p : Fin 307200) (i j : Fin 400) :
    scatter_S8x400x400_S8x307200x3_S8x307200_n_012_012_2.resultIdx? (ix2 b p) (places (index (clipped P)) (index (clipped Q)))
        = some (ix3 b i j)
      ↔ i.val = 198 + ci (p.val % 640) (D b (p.val / 640) (p.val % 640)) ∧ j.val = 198 + cj (p.val / 640) (D b (p.val / 640) (p.val % 640)) := by
  have hv : p.val / 640 < 480 := by omega
  have hu : p.val % 640 < 640 := by omega
  have z := h0 b b.isLt _ hv _ hu
  have o := h1 b b.isLt _ hv _ hu
  have ci4 := ci_lt hu z o
  have cj4 := cj_lt hv z o
  obtain ⟨e0, e1, e2⟩ := places_apply (index (clipped P)) (index (clipped Q)) b p
  rw [index_apply _ b p _ (by omega) (clipped_apply P b p _ _ (by omega) (hP b p) (posI_cell z o hu))] at e1
  rw [index_apply _ b p _ (by omega) (clipped_apply Q b p _ _ (by omega) (hQ b p) (posJ_cell z o hv))] at e2
  rw [lands _ b p ⟨198 + ci (p.val % 640) (D b (p.val / 640) (p.val % 640)), by omega⟩
    ⟨198 + cj (p.val / 640) (D b (p.val / 640) (p.val % 640)), by omega⟩ e0 e1 e2, Option.some_inj]
  rw [place_inj]
  constructor
  · rintro ⟨hi, hj⟩
    exact ⟨hi.symm, hj.symm⟩
  · rintro ⟨hi, hj⟩
    exact ⟨hi.symm, hj.symm⟩

/-- A pixel of one sample is not counted in another. -/
theorem pixel_other (b b' : Fin 8) (p : Fin 307200) (i j : Fin 400) (hb : b' ≠ b) :
    scatter_S8x400x400_S8x307200x3_S8x307200_n_012_012_2.resultIdx? (ix2 b' p) (places (index (clipped P)) (index (clipped Q)))
        ≠ some (ix3 b i j) := by
  have hv : p.val / 640 < 480 := by omega
  have hu : p.val % 640 < 640 := by omega
  have z := h0 b' b'.isLt _ hv _ hu
  have o := h1 b' b'.isLt _ hv _ hu
  have ci4 := ci_lt hu z o
  have cj4 := cj_lt hv z o
  intro h
  have e := (pixel_lands P Q D hP hQ h0 h1 b' p ⟨198 + ci (p.val % 640) (D b' (p.val / 640) (p.val % 640)), by omega⟩
    ⟨198 + cj (p.val / 640) (D b' (p.val / 640) (p.val % 640)), by omega⟩).2 ⟨rfl, rfl⟩
  rw [e, Option.some_inj] at h
  exact hb (congrFun h (0 : Fin 3))

/-- The map holds the counts. -/
theorem hist_apply (b : Fin 8) (i j : Fin 400) : hist P Q (ix3 b i j) = (((grid (N (D b)) i j : ℕ) : ℝ) : EReal) := by
  show (Ideal.ofBits .f32 0x00000000#32 : EReal) + ∑ q ∈ Finset.univ.filter (fun q =>
    scatter_S8x400x400_S8x307200x3_S8x307200_n_012_012_2.resultIdx? q (places (index (clipped P)) (index (clipped Q))) = some (ix3 b i j)),
      (uitofp (F := Ideal) .f32 (onMap P Q)) q = _
  have ones : ∀ q : S8x307200.Idx, (uitofp (F := Ideal) .f32 (onMap P Q)) q = ((1 : ℝ) : EReal) := by
    intro q
    rw [eq_ix2 q]
    show ((((onMap P Q (ix2 (q 0) (q 1))).toNat : ℕ) : ℝ) : EReal) = _
    have hv : (q 1).val / 640 < 480 := by have : (q 1).val < 307200 := (q 1).isLt; omega
    have hu : (q 1).val % 640 < 640 := by omega
    have hq : (q 0).val < 8 := (q 0).isLt
    have z := h0 _ hq _ hv _ hu
    have o := h1 _ hq _ hv _ hu
    rw [onMap_apply P Q (q 0) (q 1) _ _ (hP _ _) (hQ _ _) (posI_bounds z o hu) (posJ_bounds z o hv)]
    norm_num
  rw [Ideal.ofBits_zero_f32, Finset.sum_congr rfl (fun q _ => ones q), sum_ones, zero_add, Finset.card_filter]
  refine congrArg (fun k : ℕ => ((k : ℝ) : EReal)) ?_
  rw [sum_idx2, Finset.sum_eq_single b]
  · rw [Finset.sum_congr rfl fun p _ => if_congr (pixel_lands P Q D hP hQ h0 h1 b p i j) rfl rfl]
    refine (sum_pixels fun v u => if i.val = 198 + ci u (D b v u) ∧ j.val = 198 + cj v (D b v u) then 1 else 0).trans ?_
    exact grid_sum (D b) (h0 b b.isLt) (h1 b b.isLt) i.val j.val
  · intro b' _ hb
    exact Finset.sum_eq_zero fun p _ => if_neg (pixel_other P Q D hP hQ h0 h1 b b' p i j hb)
  · intro h; exact absurd (Finset.mem_univ b) h

end

end Bev.Ref

end
-- ==== Proof.RefRun.lean ====
/-
  The reference's run: its result is the answer of the launched depths.
-/
module

public import proofs.«01_k».proof.Proof.RefHist

@[expose] public section

noncomputable section

namespace Bev.Ref

open Idealize.ShloMosaic Idealize.ShloMosaic.TcCoe Idealize.SL.Sem
open Cert.ReferenceIdeal

/-- A sum of reals among the extended reals is the sum among the reals. -/
theorem sum_coe {α : Type} (s : Finset α) (f : α → ℝ) : ∑ x ∈ s, ((f x : ℝ) : EReal) = ((∑ x ∈ s, f x : ℝ) : EReal) := by
  classical
  induction s using Finset.induction with
  | empty => simp
  | insert a s ha ih => rw [Finset.sum_insert ha, Finset.sum_insert ha, ih, EReal.coe_add]

/-- A sum over 400 that is 0 outside the four from 198 on is the sum of those four. -/
theorem sum_window (f : ℕ → ℝ) :
    ∑ x ∈ Finset.range 400, (if 198 ≤ x ∧ x < 202 then f (x - 198) else 0) = ∑ x ∈ Finset.range 4, f x := by
  refine (congrArg (fun n => ∑ x ∈ Finset.range n, (if 198 ≤ x ∧ x < 202 then f (x - 198) else 0))
    (by norm_num : 400 = 198 + (4 + 198))).trans ?_
  rw [Finset.sum_range_add, Finset.sum_range_add, Finset.sum_eq_zero (s := Finset.range 198), zero_add,
    Finset.sum_eq_zero (s := Finset.range 198), add_zero]
  · refine Finset.sum_congr rfl fun x hx => ?_
    have := Finset.mem_range.1 hx
    rw [if_pos (by omega), Nat.add_sub_cancel_left]
  · intro x hx
    rw [if_neg (by omega)]
  · intro x hx
    have := Finset.mem_range.1 hx
    rw [if_neg (by omega)]

/-- A function of the counts summed over a map: the sixteen cells, and its value at 0 for each of the others. -/
theorem sum_grid (n : ℕ → ℕ) (φ : ℕ → ℝ) :
    ∑ x ∈ Finset.range 400, ∑ y ∈ Finset.range 400, φ (grid n x y) = ∑ k ∈ Finset.range 16, φ (n k) + 159984 * φ 0 := by
  have split : ∀ x y, φ (grid n x y) = φ 0 +
      (if 198 ≤ x ∧ x < 202 then (if 198 ≤ y ∧ y < 202 then φ (n (4 * (x - 198) + (y - 198))) - φ 0 else 0) else 0) := by
    intro x y
    unfold grid
    by_cases hx : 198 ≤ x ∧ x < 202
    · by_cases hy : 198 ≤ y ∧ y < 202
      · rw [if_pos (by omega), if_pos hx, if_pos hy]; ring
      · rw [if_neg (by omega), if_pos hx, if_neg hy]; ring
    · rw [if_neg (by omega), if_neg hx]; ring
  have inner : ∀ x, ∑ y ∈ Finset.range 400, φ (grid n x y) = 400 * φ 0 +
      (if 198 ≤ x ∧ x < 202 then ∑ y ∈ Finset.range 4, (φ (n (4 * (x - 198) + y)) - φ 0) else 0) := by
    intro x
    rw [Finset.sum_congr rfl fun y _ => split x y, Finset.sum_add_distrib, Finset.sum_const, Finset.card_range, nsmul_eq_mul]
    congr 1
    by_cases hx : 198 ≤ x ∧ x < 202
    · simp only [if_pos hx]
      exact sum_window fun y => φ (n (4 * (x - 198) + y)) - φ 0
    · simp only [if_neg hx, Finset.sum_const_zero]
  rw [Finset.sum_congr rfl fun x _ => inner x, Finset.sum_add_distrib, Finset.sum_const, Finset.card_range, nsmul_eq_mul,
    sum_window fun x => ∑ y ∈ Finset.range 4, (φ (n (4 * x + y)) - φ 0)]
  simp only [Finset.sum_range_succ, Finset.sum_range_zero]
  norm_num
  ring

/-- The same among the extended reals, over a map's places. -/
theorem sum_places (n : ℕ → ℕ) (φ : ℕ → ℝ) :
    ∑ x : Fin 400, ∑ y : Fin 400, ((φ (grid n x y) : ℝ) : EReal) = ((∑ k ∈ Finset.range 16, φ (n k) + 159984 * φ 0 : ℝ) : EReal) := by
  rw [Finset.sum_congr rfl fun (x : Fin 400) _ => sum_coe Finset.univ fun y : Fin 400 => φ (grid n x y), sum_coe]
  congr 1
  rw [← sum_grid, Finset.sum_range]
  exact Finset.sum_congr rfl fun x _ => (Finset.sum_range fun y => φ (grid n x y)).symm

section
variable (H : FVec Ideal S8x400x400 .f32) (b : Fin 8) (n : ℕ → ℕ) (hn : ∑ k ∈ Finset.range 16, n k = 307200)
  (hH : ∀ i j : Fin 400, H (ix3 b i j) = (((grid n i j : ℕ) : ℝ) : EReal))
include hH

/-- The total of the counts. -/
theorem total_apply : total H (ix1 b) = ((∑ k ∈ Finset.range 16, (n k : ℝ) : ℝ) : EReal) := by
  unfold total
  pointwise
  rw [Finset.sum_congr rfl fun x _ => Finset.sum_congr rfl fun y _ => hH x y]
  exact (sum_places n fun k => (k : ℝ)).trans (by norm_num)

/-- A count less the mean. -/
theorem centred_apply (i j : Fin 400) : centred H (ix3 b i j) = (((grid n i j : ℕ) - mu n : ℝ) : EReal) := by
  unfold centred
  pointwise
  rw [hH, total_apply H b n hH, ofBits_160000, div_real _ _ (by norm_num), ← EReal.coe_sub]
  rfl

/-- The sum of the squares about the mean. -/
theorem squares_apply : total (mulf (centred H) (centred H)) (ix1 b) = ((dev2 n : ℝ) : EReal) := by
  unfold total
  pointwise
  rw [Finset.sum_congr rfl fun x _ => Finset.sum_congr rfl fun y _ => by rw [centred_apply H b n hH, ← EReal.coe_mul]]
  refine (sum_places n fun k => ((k : ℝ) - mu n) * ((k : ℝ) - mu n)).trans ?_
  unfold dev2
  congr 1
  push_cast
  ring

include hn

/-- The deviation of the counts. -/
theorem spread_apply : spread H (ix3 b 0 0) = ((dev n : ℝ) : EReal) := by
  unfold spread free
  pointwise
  have e : Ideal.ofBits .f32 1209810944#32 - FloatOps.sitofp (F := Ideal) .f32 1#32 = ((159999 : ℝ) : EReal) := by
    rw [ofBits_160000]
    show ((160000 : ℝ) : EReal) - (((1#32 : BitVec 32).toInt : ℝ) : EReal) = _
    rw [← EReal.coe_sub]
    congr 1
    norm_num
  rw [e, squares_apply H b n hH, div_real _ _ (by norm_num), if_pos (by exact_mod_cast (by norm_num : (0 : ℝ) < 159999))]
  rw [Ideal.sqrt_coe, if_neg (not_lt.2 (div_nonneg (dev2_pos n hn).le (by norm_num)))]
  rfl

/-- The normalized map of the counts is the kernel's. -/
theorem normal_apply (i j : Fin 400) : normal H (ix3 b i j) = ((out n i j : ℝ) : EReal) := by
  unfold normal
  pointwise
  rw [centred_apply H b n hH, spread_apply H b n hn hH, div_real _ _ (dev_pos n hn).ne']
  rfl

end

/-- The launched depths of a device. -/
abbrev launched (m : (ℓ : Loc nD τ sig) → Buf (Elt Ideal) ℓ) (c : Dev nD) : Depths.Idx → EReal := m ((c : Thread nD τ).loc main_arg0)

/-- The reference's maps of depths in range are the answer. -/
theorem maps_eq (X : Depths.Idx → EReal) (h : InRange X) : normal (hist (flat (along X)) (flat (across X))) = answer X := by
  funext i
  obtain ⟨b, x, y, rfl⟩ : ∃ (b : Fin 8) (x y : Fin 400), i = ix3 b x y := ⟨_, _, _, eq_ix3 (n0 := 8) (n1 := 400) (n2 := 400) i⟩
  refine normal_apply _ b (N (depth X b)) ?_ ?_ x y
  · exact sum_cells _ (fun v hv u hu => h.depth_nonneg b v u b.isLt hv hu) (fun v hv u hu => h.depth_le b v u b.isLt hv hu)
  · refine hist_apply _ _ (depth X) ?_ ?_ (fun b hb v hv u hu => h.depth_nonneg b v u hb hv hu)
      (fun b hb v hv u hu => h.depth_le b v u hb hv hu) b
    · intro b p
      rw [flat_apply, along_apply X b _ _ _ (h.coe b _ _)]
    · intro b p
      rw [flat_apply, across_apply X b _ _ _ (h.coe b _ _)]

/-- From depths in range the reference ends with the answer as its result and the depths unchanged. -/
theorem reference_run (m : (ℓ : Loc nD τ sig) → Buf (Elt Ideal) ℓ) (ρ : Dev nD → PrngReg) (h : ∀ c, InRange (launched m c)) :
    θ_run defs (onTc (τ := τ) (main (F := Ideal))) ⟨m, fun _ => 0, ρ⟩ fun r => ∀ c : Dev nD,
      r.2.mem ((c : Thread nD τ).loc main_v76) = answer (launched m c)
      ∧ r.2.mem ((c : Thread nD τ).loc main_arg0) = m ((c : Thread nD τ).loc main_arg0) :=
  (θ_run defs _ _).mono (fun r h' c => ⟨(h' c).1.trans ((result_eq m c).trans (maps_eq _ (h c))), (h' c).2⟩)
    (Cert.ReferenceIdeal.Value.run m ρ)

end Bev.Ref

end
-- ==== Proof.lean ====
/-
  The claims of this directory, proved: the frames of the kernel, of its idealization and of the reference, and that
  the idealized kernel computes the reference's maps. The kernel's side is in Proof/KernelRun.lean, the reference's in
  Proof/RefRun.lean; both end at `Bev.answer` (Proof/Answer.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Bev

/-- The shape facts that the precondition's function states, each decided. -/
theorem pre_facts : Cert.Pre_in_range.Facts where
  bcast_S_S8x480x640 := by decide
  reducesTo_S8x480x640_S_d0_1_2 := by decide
  h_S_ := by decide
  slices_S8x480x640_S8x480x128_0_0_0 := by decide
  bcast_S_S8x480x128 := by decide
  reducesTo_S8x480x128_S_d0_1_2 := by decide

/-- The reference ends with its argument unchanged; it has no semaphores, so no counter is other than 0. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) _⟩)
    (Cert.ReferenceIdeal.Value.run m ρ)

/-- The kernel and the reference, from the same depths in range, end with the same maps: `answer` of those depths. -/
theorem equal_maps [Cert.Pre_in_range.Facts] : Cert.algebraic_KernelIdeal_ReferenceIdeal_pre_in_range := by
  intro m g m' g' hpre hm
  have inRange : ∀ c, InRange (launched m c) := fun c => inRange_of_pre _ ix0 (congrFun (hpre c) ix0)
  have same : ∀ c, Bev.Ref.launched m' c = launched m c := fun c => hm c
  refine ⟨fun c => answer (launched m c), kernel_run m g inRange, ?_⟩
  refine (θ_run Cert.ReferenceIdeal.defs _ _).mono (fun r h c => ⟨(h c).1.trans ?_, (h c).2⟩)
    (Bev.Ref.reference_run m' g' fun c => by rw [same c]; exact inRange c)
  rw [same c]

/-- Everything that is claimed: the frames of the three programs, the idealization, and the equal maps. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    @equal_maps pre_facts⟩

end Cert.Proof

end
